-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S100000x1024 : Shape := ⟨2, ![100000, 1024]⟩
abbrev S3x1024x1024 : Shape := ⟨3, ![3, 1024, 1024]⟩
abbrev S3x1024 : Shape := ⟨2, ![3, 1024]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S1024x1024 : Shape := ⟨2, ![1024, 1024]⟩
abbrev S1024 : Shape := ⟨1, ![1024]⟩
abbrev S2048x1024 : Shape := ⟨2, ![2048, 1024]⟩
abbrev S3x1x1024 : Shape := ⟨3, ![3, 1, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S1x2048 : Shape := ⟨2, ![1, 2048]⟩
abbrev S512x1024 : Shape := ⟨2, ![512, 1024]⟩
abbrev S512x2048 : Shape := ⟨2, ![512, 2048]⟩
abbrev S2048 : Shape := ⟨1, ![2048]⟩
abbrev S1x1 : Shape := ⟨2, ![1, 1]⟩
abbrev S3x100352 : Shape := ⟨2, ![3, 100352]⟩
abbrev S3x2048 : Shape := ⟨2, ![3, 2048]⟩
abbrev S3x100000 : Shape := ⟨2, ![3, 100000]⟩
abbrev S3x256 : Shape := ⟨2, ![3, 256]⟩
abbrev S768 : Shape := ⟨1, ![768]⟩
abbrev S_ : Shape := ⟨0, ![]⟩
abbrev S768x1 : Shape := ⟨2, ![768, 1]⟩
abbrev S768x1024 : Shape := ⟨2, ![768, 1024]⟩
abbrev S2048x128 : Shape := ⟨2, ![2048, 128]⟩
abbrev S768x128 : Shape := ⟨2, ![768, 128]⟩
abbrev S2048x768 : Shape := ⟨2, ![2048, 768]⟩
abbrev S2048x1 : Shape := ⟨2, ![2048, 1]⟩

abbrev nBuf : Space → Nat
  | .hbm => 54
  | .vmem => 37
  | .smem => 0
  | _ => 0

abbrev bufTy : (tb : Table) → Fin (tcTables nBuf tb) → BufTy
  | .hbm, ⟨0, _⟩ => ⟨S1x2048x1024, .f32⟩
  | .hbm, ⟨1, _⟩ => ⟨S100000x1024, .f32⟩
  | .hbm, ⟨2, _⟩ => ⟨S3x1024x1024, .f32⟩
  | .hbm, ⟨3, _⟩ => ⟨S3x1024, .f32⟩
  | .hbm, ⟨4, _⟩ => ⟨S3x1024x1024, .f32⟩
  | .hbm, ⟨5, _⟩ => ⟨S3x1024, .f32⟩
  | .hbm, ⟨6, _⟩ => ⟨S3x1024, .f32⟩
  | .hbm, ⟨7, _⟩ => ⟨S3x1024, .f32⟩
  | .hbm, ⟨8, _⟩ => ⟨S3x1024x1024, .f32⟩
  | .hbm, ⟨9, _⟩ => ⟨S3x1024, .f32⟩
  | .hbm, ⟨10, _⟩ => ⟨S2048x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1024x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S2048x1024, .f32⟩
  | .hbm, ⟨25, _⟩ => ⟨S3x1x1024, .f32⟩
  | .hbm, ⟨26, _⟩ => ⟨S3x1x1024, .f32⟩
  | .hbm, ⟨27, _⟩ => ⟨S3x1x1024, .f32⟩
  | .hbm, ⟨28, _⟩ => ⟨S3x1x1024, .f32⟩
  | .hbm, ⟨29, _⟩ => ⟨S3x1x1024, .f32⟩
  | .hbm, ⟨30, _⟩ => ⟨S3x1x1024, .f32⟩
  | .hbm, ⟨31, _⟩ => ⟨S3x1024, .f32⟩
  | .hbm, ⟨32, _⟩ => ⟨S3x100352, .f32⟩
  | .hbm, ⟨33, _⟩ => ⟨S3x100000, .f32⟩
  | .hbm, ⟨34, _⟩ => ⟨S3x256, .f32⟩
  | .hbm, ⟨35, _⟩ => ⟨S3x256, .i32⟩
  | .hbm, ⟨36, _⟩ => ⟨S768, .i32⟩
  | .hbm, ⟨37, _⟩ => ⟨S_, .i32⟩
  | .hbm, ⟨38, _⟩ => ⟨S768, .i32⟩
  | .hbm, ⟨39, _⟩ => ⟨S768, .i1⟩
  | .hbm, ⟨40, _⟩ => ⟨S_, .i32⟩
  | .hbm, ⟨41, _⟩ => ⟨S768, .i32⟩
  | .hbm, ⟨42, _⟩ => ⟨S768, .i32⟩
  | .hbm, ⟨43, _⟩ => ⟨S768, .i32⟩
  | .hbm, ⟨44, _⟩ => ⟨S768x1, .i32⟩
  | .hbm, ⟨45, _⟩ => ⟨S768x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S2048x1024, .f32⟩
  | .hbm, ⟨53, _⟩ => ⟨S1x2048x1024, .f32⟩
  | .local _ .vmem, ⟨0, _⟩ => ⟨S2048x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S3x1024, .f32⟩
  | .local _ .vmem, ⟨20, _⟩ => ⟨S2048x1024, .f32⟩
  | .local _ .vmem, ⟨21, _⟩ => ⟨S2048x1024, .f32⟩
  | .local _ .vmem, ⟨22, _⟩ => ⟨S3x2048, .f32⟩
  | .local _ .vmem, ⟨23, _⟩ => ⟨S3x2048, .f32⟩
  | .local _ .vmem, ⟨24, _⟩ => ⟨S2048x1024, .f32⟩
  | .local _ .vmem, ⟨25, _⟩ => ⟨S768x1024, .f32⟩
  | .local _ .vmem, ⟨26, _⟩ => ⟨S1024x1024, .f32⟩
  | .local _ .vmem, ⟨27, _⟩ => ⟨S1x1024, .f32⟩
  | .local _ .vmem, ⟨28, _⟩ => ⟨S1024x1024, .f32⟩
  | .local _ .vmem, ⟨29, _⟩ => ⟨S1x1024, .f32⟩
  | .local _ .vmem, ⟨30, _⟩ => ⟨S1024x1024, .f32⟩
  | .local _ .vmem, ⟨31, _⟩ => ⟨S1x1024, .f32⟩
  | .local _ .vmem, ⟨32, _⟩ => ⟨S1024x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_values : Ref sig .tc := ⟨.hbm, 34, rfl⟩
abbrev main_indices : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S3x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S768x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1024x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1024x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S2048x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
-- ==== ReferenceIdeal.lean ====
abbrev S1x2048x1024 : Shape := ⟨3, ![1, 2048, 1024]⟩
abbrev S100000x1024 : Shape := ⟨2, ![100000, 1024]⟩
abbrev S3x1024x1024 : Shape := ⟨3, ![3, 1024, 1024]⟩
abbrev S3x1024 : Shape := ⟨2, ![3, 1024]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1x1x1024 : Shape := ⟨3, ![1, 1, 1024]⟩
abbrev S_ : Shape := ⟨0, ![]⟩
abbrev S1x2048x2048 : Shape := ⟨3, ![1, 2048, 2048]⟩
abbrev S1x2048 : Shape := ⟨2, ![1, 2048]⟩
abbrev S1x2048x1 : Shape := ⟨3, ![1, 2048, 1]⟩
abbrev S1x1 : Shape := ⟨2, ![1, 1]⟩
abbrev S3x1x1024 : Shape := ⟨3, ![3, 1, 1024]⟩
abbrev S3x1x100000 : Shape := ⟨3, ![3, 1, 100000]⟩
abbrev S3x1x256 : Shape := ⟨3, ![3, 1, 256]⟩
abbrev S3x1x256x1 : Shape := ⟨4, ![3, 1, 256, 1]⟩
abbrev S3x1x256x1024 : Shape := ⟨4, ![3, 1, 256, 1024]⟩
abbrev S3x1x1x1024 : Shape := ⟨4, ![3, 1, 1, 1024]⟩
abbrev S3x1x256x2048 : Shape := ⟨4, ![3, 1, 256, 2048]⟩
abbrev S3x1x256x512 : Shape := ⟨4, ![3, 1, 256, 512]⟩
abbrev S1x1x1x512 : Shape := ⟨4, ![1, 1, 1, 512]⟩
abbrev S1x1x1x1 : Shape := ⟨4, ![1, 1, 1, 1]⟩
abbrev S1x3x256x1024 : Shape := ⟨4, ![1, 3, 256, 1024]⟩
abbrev S1x768x1024 : Shape := ⟨3, ![1, 768, 1024]⟩
abbrev S1x3x256 : Shape := ⟨3, ![1, 3, 256]⟩
abbrev S1x768 : Shape := ⟨2, ![1, 768]⟩
abbrev S1x2048x8x128 : Shape := ⟨4, ![1, 2048, 8, 128]⟩
abbrev S1x8x2048x128 : Shape := ⟨4, ![1, 8, 2048, 128]⟩
abbrev S1x768x8x128 : Shape := ⟨4, ![1, 768, 8, 128]⟩
abbrev S1x8x768x128 : Shape := ⟨4, ![1, 8, 768, 128]⟩
abbrev S1x8x2048x768 : Shape := ⟨4, ![1, 8, 2048, 768]⟩
abbrev S1x1x1x768 : Shape := ⟨4, ![1, 1, 1, 768]⟩
abbrev S1x8x2048 : Shape := ⟨3, ![1, 8, 2048]⟩
abbrev S1x8x2048x1 : Shape := ⟨4, ![1, 8, 2048, 1]⟩

abbrev nBuf : Space → Nat
  | .hbm => 512
  | .vmem => 0
  | .smem => 0
  | _ => 0

abbrev hbmTy0_0 (i : Nat) : BufTy := match i % 128 with
  | 0 => ⟨S1x2048x1024, .f32⟩
  | 1 => ⟨S100000x1024, .f32⟩
  | 2 => ⟨S3x1024x1024, .f32⟩
  | 3 => ⟨S3x1024, .f32⟩
  | 4 => ⟨S3x1024x1024, .f32⟩
  | 5 => ⟨S3x1024, .f32⟩
  | 6 => ⟨S3x1024, .f32⟩
  | 7 => ⟨S3x1024, .f32⟩
  | 8 => ⟨S3x1024x1024, .f32⟩
  | 9 => ⟨S3x1024, .f32⟩
  | 10 => ⟨S2048x512, .f32⟩
  | 11 => ⟨S512, .f32⟩
  | 12 => ⟨S512x1, .f32⟩
  | 13 => ⟨S1, .f32⟩
  | 14 => ⟨S1024x1024, .f32⟩
  | 15 => ⟨S1024, .f32⟩
  | 16 => ⟨S1024x1024, .f32⟩
  | 17 => ⟨S1024, .f32⟩
  | 18 => ⟨S1024x1024, .f32⟩
  | 19 => ⟨S1024, .f32⟩
  | 20 => ⟨S1024x1024, .f32⟩
  | 21 => ⟨S1024, .f32⟩
  | 22 => ⟨S1024, .f32⟩
  | 23 => ⟨S1024, .f32⟩
  | 24 => ⟨S1x1024x1024, .f32⟩
  | 25 => ⟨S1024x1024, .f32⟩
  | 26 => ⟨S1x2048x1024, .f32⟩
  | 27 => ⟨S1x1024, .f32⟩
  | 28 => ⟨S1024, .f32⟩
  | 29 => ⟨S1x1x1024, .f32⟩
  | 30 => ⟨S1x2048x1024, .f32⟩
  | 31 => ⟨S1x2048x1024, .f32⟩
  | 32 => ⟨S1x2048x1024, .f32⟩
  | 33 => ⟨S1x2048x1024, .f32⟩
  | 34 => ⟨S_, .f32⟩
  | 35 => ⟨S1x2048x1024, .f32⟩
  | 36 => ⟨S1x2048x1024, .f32⟩
  | 37 => ⟨S1x2048x1024, .f32⟩
  | 38 => ⟨S_, .f32⟩
  | 39 => ⟨S1x2048x1024, .f32⟩
  | 40 => ⟨S1x2048x1024, .f32⟩
  | 41 => ⟨S1x2048x1024, .f32⟩
  | 42 => ⟨S_, .f32⟩
  | 43 => ⟨S1x2048x1024, .f32⟩
  | 44 => ⟨S1x2048x1024, .f32⟩
  | 45 => ⟨S_, .f32⟩
  | 46 => ⟨S1x2048x1024, .f32⟩
  | 47 => ⟨S1x2048x1024, .f32⟩
  | 48 => ⟨S1x2048x1024, .f32⟩
  | 49 => ⟨S1x1024x1024, .f32⟩
  | 50 => ⟨S1024x1024, .f32⟩
  | 51 => ⟨S1x2048x1024, .f32⟩
  | 52 => ⟨S1x1024, .f32⟩
  | 53 => ⟨S1024, .f32⟩
  | 54 => ⟨S1x1x1024, .f32⟩
  | 55 => ⟨S1x2048x1024, .f32⟩
  | 56 => ⟨S1x2048x1024, .f32⟩
  | 57 => ⟨S1x2048x2048, .f32⟩
  | 58 => ⟨S_, .f32⟩
  | 59 => ⟨S_, .f32⟩
  | 60 => ⟨S1x2048x2048, .f32⟩
  | 61 => ⟨S1x2048x2048, .f32⟩
  | 62 => ⟨S_, .f32⟩
  | 63 => ⟨S1x2048, .f32⟩
  | 64 => ⟨S_, .f32⟩
  | 65 => ⟨S1x2048, .f32⟩
  | 66 => ⟨S1x2048, .f32⟩
  | 67 => ⟨S1x2048x1, .f32⟩
  | 68 => ⟨S1x2048x2048, .f32⟩
  | 69 => ⟨S1x2048x2048, .f32⟩
  | 70 => ⟨S1x2048x2048, .f32⟩
  | 71 => ⟨S_, .f32⟩
  | 72 => ⟨S1x2048, .f32⟩
  | 73 => ⟨S1x2048x1, .f32⟩
  | 74 => ⟨S1x2048x2048, .f32⟩
  | 75 => ⟨S1x2048x2048, .f32⟩
  | 76 => ⟨S1x2048x1024, .f32⟩
  | 77 => ⟨S_, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1, .f32⟩
  | 84 => ⟨S1x1, .f32⟩
  | 85 => ⟨S_, .f32⟩
  | 86 => ⟨S1x1, .f32⟩
  | 87 => ⟨S1x1, .f32⟩
  | 88 => ⟨S_, .i32⟩
  | 89 => ⟨S_, .f32⟩
  | 90 => ⟨S1, .f32⟩
  | 91 => ⟨S1x1, .f32⟩
  | 92 => ⟨S_, .f32⟩
  | 93 => ⟨S1x1, .f32⟩
  | 94 => ⟨S1x1, .f32⟩
  | 95 => ⟨S1x1024, .f32⟩
  | 96 => ⟨S1x1024, .f32⟩
  | 97 => ⟨S1x1024, .f32⟩
  | 98 => ⟨S_, .f32⟩
  | 99 => ⟨S_, .f32⟩
  | 100 => ⟨S_, .f32⟩
  | 101 => ⟨S_, .f32⟩
  | 102 => ⟨S1, .f32⟩
  | 103 => ⟨S1x1, .f32⟩
  | 104 => ⟨S1x1, .f32⟩
  | 105 => ⟨S1x1, .f32⟩
  | 106 => ⟨S_, .f32⟩
  | 107 => ⟨S_, .i1⟩
  | 108 => ⟨S_, .f32⟩
  | 109 => ⟨S_, .f32⟩
  | 110 => ⟨S1x1, .f32⟩
  | 111 => ⟨S1x1, .f32⟩
  | 112 => ⟨S1x1024, .f32⟩
  | 113 => ⟨S1x1024, .f32⟩
  | 114 => ⟨S_, .f32⟩
  | 115 => ⟨S1x1, .f32⟩
  | 116 => ⟨S1x1, .f32⟩
  | 117 => ⟨S1x1, .f32⟩
  | 118 => ⟨S1x1024, .f32⟩
  | 119 => ⟨S1x1024, .f32⟩
  | 120 => ⟨S1x1024, .f32⟩
  | 121 => ⟨S1024, .f32⟩
  | 122 => ⟨S1x1024, .f32⟩
  | 123 => ⟨S1x1024, .f32⟩
  | 124 => ⟨S1x1024, .f32⟩
  | 125 => ⟨S1024, .f32⟩
  | 126 => ⟨S1x1024, .f32⟩
  | 127 => ⟨S1x1024, .f32⟩
  | _ => ⟨S1x2048x1024, .f32⟩

abbrev hbmTy0_1 (i : Nat) : BufTy := match i % 128 with
  | 0 => ⟨S1x1024x1024, .f32⟩
  | 1 => ⟨S1024x1024, .f32⟩
  | 2 => ⟨S1x1024, .f32⟩
  | 3 => ⟨S1x1024, .f32⟩
  | 4 => ⟨S1024, .f32⟩
  | 5 => ⟨S1x1024, .f32⟩
  | 6 => ⟨S1x1024, .f32⟩
  | 7 => ⟨S1x1024x1024, .f32⟩
  | 8 => ⟨S1024x1024, .f32⟩
  | 9 => ⟨S1x2048x1024, .f32⟩
  | 10 => ⟨S1x1024, .f32⟩
  | 11 => ⟨S1024, .f32⟩
  | 12 => ⟨S1x1x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S_, .f32⟩
  | 18 => ⟨S1x2048x1024, .f32⟩
  | 19 => ⟨S1x2048x1024, .f32⟩
  | 20 => ⟨S1x2048x1024, .f32⟩
  | 21 => ⟨S_, .f32⟩
  | 22 => ⟨S1x2048x1024, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S_, .f32⟩
  | 29 => ⟨S1x2048x1024, .f32⟩
  | 30 => ⟨S1x2048x1024, .f32⟩
  | 31 => ⟨S1x2048x1024, .f32⟩
  | 32 => ⟨S1x1024x1024, .f32⟩
  | 33 => ⟨S1024x1024, .f32⟩
  | 34 => ⟨S1x2048x1024, .f32⟩
  | 35 => ⟨S1x1024, .f32⟩
  | 36 => ⟨S1024, .f32⟩
  | 37 => ⟨S1x1x1024, .f32⟩
  | 38 => ⟨S1x2048x1024, .f32⟩
  | 39 => ⟨S1x2048x1024, .f32⟩
  | 40 => ⟨S1x2048x2048, .f32⟩
  | 41 => ⟨S_, .f32⟩
  | 42 => ⟨S_, .f32⟩
  | 43 => ⟨S1x2048x2048, .f32⟩
  | 44 => ⟨S1x2048x2048, .f32⟩
  | 45 => ⟨S_, .f32⟩
  | 46 => ⟨S1x2048, .f32⟩
  | 47 => ⟨S_, .f32⟩
  | 48 => ⟨S1x2048, .f32⟩
  | 49 => ⟨S1x2048, .f32⟩
  | 50 => ⟨S1x2048x1, .f32⟩
  | 51 => ⟨S1x2048x2048, .f32⟩
  | 52 => ⟨S1x2048x2048, .f32⟩
  | 53 => ⟨S1x2048x2048, .f32⟩
  | 54 => ⟨S_, .f32⟩
  | 55 => ⟨S1x2048, .f32⟩
  | 56 => ⟨S1x2048x1, .f32⟩
  | 57 => ⟨S1x2048x2048, .f32⟩
  | 58 => ⟨S1x2048x2048, .f32⟩
  | 59 => ⟨S1x2048x1024, .f32⟩
  | 60 => ⟨S_, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1, .f32⟩
  | 67 => ⟨S1x1, .f32⟩
  | 68 => ⟨S_, .f32⟩
  | 69 => ⟨S1x1, .f32⟩
  | 70 => ⟨S1x1, .f32⟩
  | 71 => ⟨S_, .i32⟩
  | 72 => ⟨S_, .f32⟩
  | 73 => ⟨S1, .f32⟩
  | 74 => ⟨S1x1, .f32⟩
  | 75 => ⟨S_, .f32⟩
  | 76 => ⟨S1x1, .f32⟩
  | 77 => ⟨S1x1, .f32⟩
  | 78 => ⟨S1x1024, .f32⟩
  | 79 => ⟨S1x1024, .f32⟩
  | 80 => ⟨S1x1024, .f32⟩
  | 81 => ⟨S_, .f32⟩
  | 82 => ⟨S_, .f32⟩
  | 83 => ⟨S_, .f32⟩
  | 84 => ⟨S_, .f32⟩
  | 85 => ⟨S1, .f32⟩
  | 86 => ⟨S1x1, .f32⟩
  | 87 => ⟨S1x1, .f32⟩
  | 88 => ⟨S1x1, .f32⟩
  | 89 => ⟨S_, .f32⟩
  | 90 => ⟨S_, .i1⟩
  | 91 => ⟨S_, .f32⟩
  | 92 => ⟨S_, .f32⟩
  | 93 => ⟨S1x1, .f32⟩
  | 94 => ⟨S1x1, .f32⟩
  | 95 => ⟨S1x1024, .f32⟩
  | 96 => ⟨S1x1024, .f32⟩
  | 97 => ⟨S_, .f32⟩
  | 98 => ⟨S1x1, .f32⟩
  | 99 => ⟨S1x1, .f32⟩
  | 100 => ⟨S1x1, .f32⟩
  | 101 => ⟨S1x1024, .f32⟩
  | 102 => ⟨S1x1024, .f32⟩
  | 103 => ⟨S1x1024, .f32⟩
  | 104 => ⟨S1024, .f32⟩
  | 105 => ⟨S1x1024, .f32⟩
  | 106 => ⟨S1x1024, .f32⟩
  | 107 => ⟨S1x1024, .f32⟩
  | 108 => ⟨S1024, .f32⟩
  | 109 => ⟨S1x1024, .f32⟩
  | 110 => ⟨S1x1024, .f32⟩
  | 111 => ⟨S1x1024x1024, .f32⟩
  | 112 => ⟨S1024x1024, .f32⟩
  | 113 => ⟨S1x1024, .f32⟩
  | 114 => ⟨S1x1024, .f32⟩
  | 115 => ⟨S1024, .f32⟩
  | 116 => ⟨S1x1024, .f32⟩
  | 117 => ⟨S1x1024, .f32⟩
  | 118 => ⟨S1x1024x1024, .f32⟩
  | 119 => ⟨S1024x1024, .f32⟩
  | 120 => ⟨S1x2048x1024, .f32⟩
  | 121 => ⟨S1x1024, .f32⟩
  | 122 => ⟨S1024, .f32⟩
  | 123 => ⟨S1x1x1024, .f32⟩
  | 124 => ⟨S1x2048x1024, .f32⟩
  | 125 => ⟨S1x2048x1024, .f32⟩
  | 126 => ⟨S1x2048x1024, .f32⟩
  | 127 => ⟨S1x2048x1024, .f32⟩
  | _ => ⟨S1x2048x1024, .f32⟩

abbrev hbmTy0_2 (i : Nat) : BufTy := match i % 128 with
  | 0 => ⟨S_, .f32⟩
  | 1 => ⟨S1x2048x1024, .f32⟩
  | 2 => ⟨S1x2048x1024, .f32⟩
  | 3 => ⟨S1x2048x1024, .f32⟩
  | 4 => ⟨S_, .f32⟩
  | 5 => ⟨S1x2048x1024, .f32⟩
  | 6 => ⟨S1x2048x1024, .f32⟩
  | 7 => ⟨S1x2048x1024, .f32⟩
  | 8 => ⟨S_, .f32⟩
  | 9 => ⟨S1x2048x1024, .f32⟩
  | 10 => ⟨S1x2048x1024, .f32⟩
  | 11 => ⟨S_, .f32⟩
  | 12 => ⟨S1x2048x1024, .f32⟩
  | 13 => ⟨S1x2048x1024, .f32⟩
  | 14 => ⟨S1x2048x1024, .f32⟩
  | 15 => ⟨S1x1024x1024, .f32⟩
  | 16 => ⟨S1024x1024, .f32⟩
  | 17 => ⟨S1x2048x1024, .f32⟩
  | 18 => ⟨S1x1024, .f32⟩
  | 19 => ⟨S1024, .f32⟩
  | 20 => ⟨S1x1x1024, .f32⟩
  | 21 => ⟨S1x2048x1024, .f32⟩
  | 22 => ⟨S1x2048x1024, .f32⟩
  | 23 => ⟨S1x2048x2048, .f32⟩
  | 24 => ⟨S_, .f32⟩
  | 25 => ⟨S_, .f32⟩
  | 26 => ⟨S1x2048x2048, .f32⟩
  | 27 => ⟨S1x2048x2048, .f32⟩
  | 28 => ⟨S_, .f32⟩
  | 29 => ⟨S1x2048, .f32⟩
  | 30 => ⟨S_, .f32⟩
  | 31 => ⟨S1x2048, .f32⟩
  | 32 => ⟨S1x2048, .f32⟩
  | 33 => ⟨S1x2048x1, .f32⟩
  | 34 => ⟨S1x2048x2048, .f32⟩
  | 35 => ⟨S1x2048x2048, .f32⟩
  | 36 => ⟨S1x2048x2048, .f32⟩
  | 37 => ⟨S_, .f32⟩
  | 38 => ⟨S1x2048, .f32⟩
  | 39 => ⟨S1x2048x1, .f32⟩
  | 40 => ⟨S1x2048x2048, .f32⟩
  | 41 => ⟨S1x2048x2048, .f32⟩
  | 42 => ⟨S1x2048x1024, .f32⟩
  | 43 => ⟨S_, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1, .f32⟩
  | 50 => ⟨S1x1, .f32⟩
  | 51 => ⟨S_, .f32⟩
  | 52 => ⟨S1x1, .f32⟩
  | 53 => ⟨S1x1, .f32⟩
  | 54 => ⟨S_, .i32⟩
  | 55 => ⟨S_, .f32⟩
  | 56 => ⟨S1, .f32⟩
  | 57 => ⟨S1x1, .f32⟩
  | 58 => ⟨S_, .f32⟩
  | 59 => ⟨S1x1, .f32⟩
  | 60 => ⟨S1x1, .f32⟩
  | 61 => ⟨S1x1024, .f32⟩
  | 62 => ⟨S1x1024, .f32⟩
  | 63 => ⟨S1x1024, .f32⟩
  | 64 => ⟨S_, .f32⟩
  | 65 => ⟨S_, .f32⟩
  | 66 => ⟨S_, .f32⟩
  | 67 => ⟨S_, .f32⟩
  | 68 => ⟨S1, .f32⟩
  | 69 => ⟨S1x1, .f32⟩
  | 70 => ⟨S1x1, .f32⟩
  | 71 => ⟨S1x1, .f32⟩
  | 72 => ⟨S_, .f32⟩
  | 73 => ⟨S_, .i1⟩
  | 74 => ⟨S_, .f32⟩
  | 75 => ⟨S_, .f32⟩
  | 76 => ⟨S1x1, .f32⟩
  | 77 => ⟨S1x1, .f32⟩
  | 78 => ⟨S1x1024, .f32⟩
  | 79 => ⟨S1x1024, .f32⟩
  | 80 => ⟨S_, .f32⟩
  | 81 => ⟨S1x1, .f32⟩
  | 82 => ⟨S1x1, .f32⟩
  | 83 => ⟨S1x1, .f32⟩
  | 84 => ⟨S1x1024, .f32⟩
  | 85 => ⟨S1x1024, .f32⟩
  | 86 => ⟨S1x1024, .f32⟩
  | 87 => ⟨S1024, .f32⟩
  | 88 => ⟨S1x1024, .f32⟩
  | 89 => ⟨S1x1024, .f32⟩
  | 90 => ⟨S1x1024, .f32⟩
  | 91 => ⟨S1024, .f32⟩
  | 92 => ⟨S1x1024, .f32⟩
  | 93 => ⟨S1x1024, .f32⟩
  | 94 => ⟨S1x1024x1024, .f32⟩
  | 95 => ⟨S1024x1024, .f32⟩
  | 96 => ⟨S1x1024, .f32⟩
  | 97 => ⟨S1x1024, .f32⟩
  | 98 => ⟨S1024, .f32⟩
  | 99 => ⟨S1x1024, .f32⟩
  | 100 => ⟨S1x1024, .f32⟩
  | 101 => ⟨S1x1x1024, .f32⟩
  | 102 => ⟨S1x1x1024, .f32⟩
  | 103 => ⟨S1x1x1024, .f32⟩
  | 104 => ⟨S3x1x1024, .f32⟩
  | 105 => ⟨S3x1x100000, .f32⟩
  | 106 => ⟨S3x1x256, .f32⟩
  | 107 => ⟨S3x1x256, .i32⟩
  | 108 => ⟨S_, .i32⟩
  | 109 => ⟨S3x1x256, .i32⟩
  | 110 => ⟨S3x1x256, .i1⟩
  | 111 => ⟨S_, .i32⟩
  | 112 => ⟨S3x1x256, .i32⟩
  | 113 => ⟨S3x1x256, .i32⟩
  | 114 => ⟨S3x1x256, .i32⟩
  | 115 => ⟨S3x1x256x1, .i32⟩
  | 116 => ⟨S3x1x256x1024, .f32⟩
  | 117 => ⟨S3x1x1x1024, .f32⟩
  | 118 => ⟨S3x1x256x1024, .f32⟩
  | 119 => ⟨S3x1x256x2048, .f32⟩
  | 120 => ⟨S3x1x256x512, .f32⟩
  | 121 => ⟨S1x1x1x512, .f32⟩
  | 122 => ⟨S3x1x256x512, .f32⟩
  | 123 => ⟨S3x1x256x512, .f32⟩
  | 124 => ⟨S3x1x256x512, .f32⟩
  | 125 => ⟨S3x1x256x512, .f32⟩
  | 126 => ⟨S_, .f32⟩
  | 127 => ⟨S3x1x256x512, .f32⟩
  | _ => ⟨S1x2048x1024, .f32⟩

abbrev hbmTy0_3 (i : Nat) : BufTy := match i % 128 with
  | 0 => ⟨S3x1x256x512, .f32⟩
  | 1 => ⟨S3x1x256x512, .f32⟩
  | 2 => ⟨S_, .f32⟩
  | 3 => ⟨S3x1x256x512, .f32⟩
  | 4 => ⟨S3x1x256x512, .f32⟩
  | 5 => ⟨S3x1x256x512, .f32⟩
  | 6 => ⟨S_, .f32⟩
  | 7 => ⟨S3x1x256x512, .f32⟩
  | 8 => ⟨S3x1x256x512, .f32⟩
  | 9 => ⟨S_, .f32⟩
  | 10 => ⟨S3x1x256x512, .f32⟩
  | 11 => ⟨S3x1x256x512, .f32⟩
  | 12 => ⟨S3x1x256x512, .f32⟩
  | 13 => ⟨S3x1x256x1, .f32⟩
  | 14 => ⟨S1x1x1x1, .f32⟩
  | 15 => ⟨S3x1x256x1, .f32⟩
  | 16 => ⟨S3x1x256x1, .f32⟩
  | 17 => ⟨S3x1x256x1, .f32⟩
  | 18 => ⟨S3x1x256x1, .f32⟩
  | 19 => ⟨S_, .f32⟩
  | 20 => ⟨S3x1x256x1, .f32⟩
  | 21 => ⟨S3x1x256x1, .f32⟩
  | 22 => ⟨S_, .f32⟩
  | 23 => ⟨S3x1x256x1, .f32⟩
  | 24 => ⟨S3x1x256x1, .f32⟩
  | 25 => ⟨S3x1x256, .f32⟩
  | 26 => ⟨S_, .f32⟩
  | 27 => ⟨S3x1x256, .f32⟩
  | 28 => ⟨S3x1x256, .i1⟩
  | 29 => ⟨S1x3x256x1024, .f32⟩
  | 30 => ⟨S1x768x1024, .f32⟩
  | 31 => ⟨S1x3x256, .i1⟩
  | 32 => ⟨S1x768, .i1⟩
  | 33 => ⟨S1x2048x1024, .f32⟩
  | 34 => ⟨S1x1x1024, .f32⟩
  | 35 => ⟨S1x2048x1024, .f32⟩
  | 36 => ⟨S1x2048x1024, .f32⟩
  | 37 => ⟨S1x2048x8x128, .f32⟩
  | 38 => ⟨S1x8x2048x128, .f32⟩
  | 39 => ⟨S1x768x1024, .f32⟩
  | 40 => ⟨S1x1x1024, .f32⟩
  | 41 => ⟨S1x768x1024, .f32⟩
  | 42 => ⟨S1x768x1024, .f32⟩
  | 43 => ⟨S1x768x8x128, .f32⟩
  | 44 => ⟨S1x8x768x128, .f32⟩
  | 45 => ⟨S1x768x1024, .f32⟩
  | 46 => ⟨S1x1x1024, .f32⟩
  | 47 => ⟨S1x768x1024, .f32⟩
  | 48 => ⟨S1x768x1024, .f32⟩
  | 49 => ⟨S1x768x8x128, .f32⟩
  | 50 => ⟨S1x8x768x128, .f32⟩
  | 51 => ⟨S1x8x2048x768, .f32⟩
  | 52 => ⟨S_, .f32⟩
  | 53 => ⟨S_, .f32⟩
  | 54 => ⟨S1x8x2048x768, .f32⟩
  | 55 => ⟨S1x8x2048x768, .f32⟩
  | 56 => ⟨S1x1x1x768, .i1⟩
  | 57 => ⟨S_, .f32⟩
  | 58 => ⟨S_, .f32⟩
  | 59 => ⟨S1x8x2048x768, .i1⟩
  | 60 => ⟨S1x8x2048x768, .f32⟩
  | 61 => ⟨S1x8x2048x768, .f32⟩
  | 62 => ⟨S_, .f32⟩
  | 63 => ⟨S1x8x2048, .f32⟩
  | 64 => ⟨S_, .f32⟩
  | 65 => ⟨S1x8x2048, .f32⟩
  | 66 => ⟨S1x8x2048, .f32⟩
  | 67 => ⟨S1x8x2048x1, .f32⟩
  | 68 => ⟨S1x8x2048x768, .f32⟩
  | 69 => ⟨S1x8x2048x768, .f32⟩
  | 70 => ⟨S1x8x2048x768, .f32⟩
  | 71 => ⟨S_, .f32⟩
  | 72 => ⟨S1x8x2048, .f32⟩
  | 73 => ⟨S1x8x2048x1, .f32⟩
  | 74 => ⟨S1x8x2048x768, .f32⟩
  | 75 => ⟨S1x8x2048x768, .f32⟩
  | 76 => ⟨S1x8x2048x128, .f32⟩
  | 77 => ⟨S1x2048x8x128, .f32⟩
  | 78 => ⟨S1x2048x1024, .f32⟩
  | 79 => ⟨S1x2048x1024, .f32⟩
  | 80 => ⟨S1x1x1024, .f32⟩
  | 81 => ⟨S1x2048x1024, .f32⟩
  | 82 => ⟨S1x2048x1024, .f32⟩
  | 83 => ⟨S1x2048x1024, .f32⟩
  | 84 => ⟨S_, .f32⟩
  | 85 => ⟨S1x2048, .f32⟩
  | 86 => ⟨S1x2048x1, .f32⟩
  | 87 => ⟨S_, .f32⟩
  | 88 => ⟨S1x2048x1, .f32⟩
  | 89 => ⟨S1x2048x1, .f32⟩
  | 90 => ⟨S_, .i32⟩
  | 91 => ⟨S_, .f32⟩
  | 92 => ⟨S1x2048, .f32⟩
  | 93 => ⟨S1x2048x1, .f32⟩
  | 94 => ⟨S_, .f32⟩
  | 95 => ⟨S1x2048x1, .f32⟩
  | 96 => ⟨S1x2048x1, .f32⟩
  | 97 => ⟨S1x2048x1024, .f32⟩
  | 98 => ⟨S1x2048x1024, .f32⟩
  | 99 => ⟨S1x2048x1024, .f32⟩
  | 100 => ⟨S_, .f32⟩
  | 101 => ⟨S_, .f32⟩
  | 102 => ⟨S_, .f32⟩
  | 103 => ⟨S_, .f32⟩
  | 104 => ⟨S1x2048, .f32⟩
  | 105 => ⟨S1x2048x1, .f32⟩
  | 106 => ⟨S1x2048x1, .f32⟩
  | 107 => ⟨S1x2048x1, .f32⟩
  | 108 => ⟨S_, .f32⟩
  | 109 => ⟨S_, .i1⟩
  | 110 => ⟨S_, .f32⟩
  | 111 => ⟨S_, .f32⟩
  | 112 => ⟨S1x2048x1, .f32⟩
  | 113 => ⟨S1x2048x1, .f32⟩
  | 114 => ⟨S1x2048x1024, .f32⟩
  | 115 => ⟨S1x2048x1024, .f32⟩
  | 116 => ⟨S_, .f32⟩
  | 117 => ⟨S1x2048x1, .f32⟩
  | 118 => ⟨S1x2048x1, .f32⟩
  | 119 => ⟨S1x2048x1, .f32⟩
  | 120 => ⟨S1x2048x1024, .f32⟩
  | 121 => ⟨S1x2048x1024, .f32⟩
  | 122 => ⟨S1x1x1024, .f32⟩
  | 123 => ⟨S1x2048x1024, .f32⟩
  | 124 => ⟨S1x2048x1024, .f32⟩
  | 125 => ⟨S1x1x1024, .f32⟩
  | 126 => ⟨S1x2048x1024, .f32⟩
  | 127 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_v51 : Ref sig .tc := ⟨.hbm, 87, rfl⟩
abbrev main_c : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_cst_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_cst_1 : Ref sig .tc := ⟨.hbm, 99, rfl⟩
abbrev main_call0_v8 : Ref sig .tc := ⟨.hbm, 100, rfl⟩
abbrev main_call0_cst_2 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_v12 : Ref sig .tc := ⟨.hbm, 105, rfl⟩
abbrev main_call0_cst_3 : Ref sig .tc := ⟨.hbm, 106, rfl⟩
abbrev main_call0_v13 : Ref sig .tc := ⟨.hbm, 107, rfl⟩
abbrev main_call0_cst_4 : Ref sig .tc := ⟨.hbm, 108, rfl⟩
abbrev main_call0_call0_v0 : Ref sig .tc := ⟨.hbm, 109, rfl⟩
abbrev main_call0_call0_v1 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_11 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_12 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_13 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_14 : Ref sig .tc := ⟨.hbm, 153, rfl⟩
abbrev main_v91 : Ref sig .tc := ⟨.hbm, 154, rfl⟩
abbrev main_v92 : Ref sig .tc := ⟨.hbm, 155, rfl⟩
abbrev main_cst_15 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_16 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_17 : Ref sig .tc := ⟨.hbm, 173, rfl⟩
abbrev main_v108 : Ref sig .tc := ⟨.hbm, 174, rfl⟩
abbrev main_cst_18 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_19 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_20 : Ref sig .tc := ⟨.hbm, 188, rfl⟩
abbrev main_v120 : Ref sig .tc := ⟨.hbm, 189, rfl⟩
abbrev main_cst_21 : Ref sig .tc := ⟨.hbm, 190, rfl⟩
abbrev main_v121 : Ref sig .tc := ⟨.hbm, 191, rfl⟩
abbrev main_v122 : Ref sig .tc := ⟨.hbm, 192, rfl⟩
abbrev main_cst_22 : Ref sig .tc := ⟨.hbm, 193, rfl⟩
abbrev main_v123 : Ref sig .tc := ⟨.hbm, 194, rfl⟩
abbrev main_v124 : Ref sig .tc := ⟨.hbm, 195, rfl⟩
abbrev main_cst_23 : Ref sig .tc := ⟨.hbm, 196, rfl⟩
abbrev main_v125 : Ref sig .tc := ⟨.hbm, 197, rfl⟩
abbrev main_v126 : Ref sig .tc := ⟨.hbm, 198, rfl⟩
abbrev main_c_24 : Ref sig .tc := ⟨.hbm, 199, rfl⟩
abbrev main_call1_cst : Ref sig .tc := ⟨.hbm, 200, rfl⟩
abbrev main_call1_v0 : Ref sig .tc := ⟨.hbm, 201, rfl⟩
abbrev main_call1_v1 : Ref sig .tc := ⟨.hbm, 202, rfl⟩
abbrev main_call1_cst_0 : Ref sig .tc := ⟨.hbm, 203, rfl⟩
abbrev main_call1_v2 : Ref sig .tc := ⟨.hbm, 204, rfl⟩
abbrev main_call1_v3 : Ref sig .tc := ⟨.hbm, 205, rfl⟩
abbrev main_call1_v4 : Ref sig .tc := ⟨.hbm, 206, rfl⟩
abbrev main_call1_v5 : Ref sig .tc := ⟨.hbm, 207, rfl⟩
abbrev main_call1_v6 : Ref sig .tc := ⟨.hbm, 208, rfl⟩
abbrev main_call1_v7 : Ref sig .tc := ⟨.hbm, 209, rfl⟩
abbrev main_call1_cst_1 : Ref sig .tc := ⟨.hbm, 210, rfl⟩
abbrev main_call1_v8 : Ref sig .tc := ⟨.hbm, 211, rfl⟩
abbrev main_call1_cst_2 : Ref sig .tc := ⟨.hbm, 212, rfl⟩
abbrev main_call1_v9 : Ref sig .tc := ⟨.hbm, 213, rfl⟩
abbrev main_call1_v10 : Ref sig .tc := ⟨.hbm, 214, rfl⟩
abbrev main_call1_v11 : Ref sig .tc := ⟨.hbm, 215, rfl⟩
abbrev main_call1_v12 : Ref sig .tc := ⟨.hbm, 216, rfl⟩
abbrev main_call1_cst_3 : Ref sig .tc := ⟨.hbm, 217, rfl⟩
abbrev main_call1_v13 : Ref sig .tc := ⟨.hbm, 218, rfl⟩
abbrev main_call1_cst_4 : Ref sig .tc := ⟨.hbm, 219, rfl⟩
abbrev main_call1_call0_v0 : Ref sig .tc := ⟨.hbm, 220, rfl⟩
abbrev main_call1_call0_v1 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_cst_25 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_26 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_27 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_28 : Ref sig .tc := ⟨.hbm, 264, rfl⟩
abbrev main_v166 : Ref sig .tc := ⟨.hbm, 265, rfl⟩
abbrev main_v167 : Ref sig .tc := ⟨.hbm, 266, rfl⟩
abbrev main_cst_29 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_cst_30 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_cst_31 : Ref sig .tc := ⟨.hbm, 284, rfl⟩
abbrev main_v183 : Ref sig .tc := ⟨.hbm, 285, rfl⟩
abbrev main_cst_32 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_33 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_cst_34 : Ref sig .tc := ⟨.hbm, 299, rfl⟩
abbrev main_v195 : Ref sig .tc := ⟨.hbm, 300, rfl⟩
abbrev main_cst_35 : Ref sig .tc := ⟨.hbm, 301, rfl⟩
abbrev main_v196 : Ref sig .tc := ⟨.hbm, 302, rfl⟩
abbrev main_v197 : Ref sig .tc := ⟨.hbm, 303, rfl⟩
abbrev main_cst_36 : Ref sig .tc := ⟨.hbm, 304, rfl⟩
abbrev main_v198 : Ref sig .tc := ⟨.hbm, 305, rfl⟩
abbrev main_v199 : Ref sig .tc := ⟨.hbm, 306, rfl⟩
abbrev main_cst_37 : Ref sig .tc := ⟨.hbm, 307, rfl⟩
abbrev main_v200 : Ref sig .tc := ⟨.hbm, 308, rfl⟩
abbrev main_v201 : Ref sig .tc := ⟨.hbm, 309, rfl⟩
abbrev main_c_38 : Ref sig .tc := ⟨.hbm, 310, rfl⟩
abbrev main_call2_cst : Ref sig .tc := ⟨.hbm, 311, rfl⟩
abbrev main_call2_v0 : Ref sig .tc := ⟨.hbm, 312, rfl⟩
abbrev main_call2_v1 : Ref sig .tc := ⟨.hbm, 313, rfl⟩
abbrev main_call2_cst_0 : Ref sig .tc := ⟨.hbm, 314, rfl⟩
abbrev main_call2_v2 : Ref sig .tc := ⟨.hbm, 315, rfl⟩
abbrev main_call2_v3 : Ref sig .tc := ⟨.hbm, 316, rfl⟩
abbrev main_call2_v4 : Ref sig .tc := ⟨.hbm, 317, rfl⟩
abbrev main_call2_v5 : Ref sig .tc := ⟨.hbm, 318, rfl⟩
abbrev main_call2_v6 : Ref sig .tc := ⟨.hbm, 319, rfl⟩
abbrev main_call2_v7 : Ref sig .tc := ⟨.hbm, 320, rfl⟩
abbrev main_call2_cst_1 : Ref sig .tc := ⟨.hbm, 321, rfl⟩
abbrev main_call2_v8 : Ref sig .tc := ⟨.hbm, 322, rfl⟩
abbrev main_call2_cst_2 : Ref sig .tc := ⟨.hbm, 323, rfl⟩
abbrev main_call2_v9 : Ref sig .tc := ⟨.hbm, 324, rfl⟩
abbrev main_call2_v10 : Ref sig .tc := ⟨.hbm, 325, rfl⟩
abbrev main_call2_v11 : Ref sig .tc := ⟨.hbm, 326, rfl⟩
abbrev main_call2_v12 : Ref sig .tc := ⟨.hbm, 327, rfl⟩
abbrev main_call2_cst_3 : Ref sig .tc := ⟨.hbm, 328, rfl⟩
abbrev main_call2_v13 : Ref sig .tc := ⟨.hbm, 329, rfl⟩
abbrev main_call2_cst_4 : Ref sig .tc := ⟨.hbm, 330, rfl⟩
abbrev main_call2_call0_v0 : Ref sig .tc := ⟨.hbm, 331, rfl⟩
abbrev main_call2_call0_v1 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_cst_39 : Ref sig .tc := ⟨.hbm, 336, rfl⟩
abbrev main_v205 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_v209 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_v214 : Ref sig .tc := ⟨.hbm, 346, rfl⟩
abbrev main_v215 : Ref sig .tc := ⟨.hbm, 347, rfl⟩
abbrev main_v216 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_values : Ref sig .tc := ⟨.hbm, 362, rfl⟩
abbrev main_indices : Ref sig .tc := ⟨.hbm, 363, rfl⟩
abbrev main_c_40 : Ref sig .tc := ⟨.hbm, 364, rfl⟩
abbrev main_v230 : Ref sig .tc := ⟨.hbm, 365, rfl⟩
abbrev main_v231 : Ref sig .tc := ⟨.hbm, 366, rfl⟩
abbrev main_c_41 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_cst_42 : Ref sig .tc := ⟨.hbm, 382, rfl⟩
abbrev main_v246 : Ref sig .tc := ⟨.hbm, 383, rfl⟩
abbrev main_v247 : Ref sig .tc := ⟨.hbm, 384, rfl⟩
abbrev main_v248 : Ref sig .tc := ⟨.hbm, 385, rfl⟩
abbrev main_cst_43 : Ref sig .tc := ⟨.hbm, 386, rfl⟩
abbrev main_v249 : Ref sig .tc := ⟨.hbm, 387, rfl⟩
abbrev main_v250 : Ref sig .tc := ⟨.hbm, 388, rfl⟩
abbrev main_v251 : Ref sig .tc := ⟨.hbm, 389, rfl⟩
abbrev main_cst_44 : Ref sig .tc := ⟨.hbm, 390, rfl⟩
abbrev main_v252 : Ref sig .tc := ⟨.hbm, 391, rfl⟩
abbrev main_v253 : Ref sig .tc := ⟨.hbm, 392, rfl⟩
abbrev main_cst_45 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_cst_46 : Ref sig .tc := ⟨.hbm, 403, rfl⟩
abbrev main_v263 : Ref sig .tc := ⟨.hbm, 404, rfl⟩
abbrev main_v264 : Ref sig .tc := ⟨.hbm, 405, rfl⟩
abbrev main_cst_47 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩
abbrev main_cst_48 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩
abbrev main_v278 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_v286 : Ref sig .tc := ⟨.hbm, 429, rfl⟩
abbrev main_v287 : Ref sig .tc := ⟨.hbm, 430, rfl⟩
abbrev main_v288 : Ref sig .tc := ⟨.hbm, 431, rfl⟩
abbrev main_v289 : Ref sig .tc := ⟨.hbm, 432, rfl⟩
abbrev main_v290 : Ref sig .tc := ⟨.hbm, 433, rfl⟩
abbrev main_v291 : Ref sig .tc := ⟨.hbm, 434, rfl⟩
abbrev main_v292 : Ref sig .tc := ⟨.hbm, 435, rfl⟩
abbrev main_cst_49 : Ref sig .tc := ⟨.hbm, 436, rfl⟩
abbrev main_v293 : Ref sig .tc := ⟨.hbm, 437, rfl⟩
abbrev main_v294 : Ref sig .tc := ⟨.hbm, 438, rfl⟩
abbrev main_v295 : Ref sig .tc := ⟨.hbm, 439, rfl⟩
abbrev main_v296 : Ref sig .tc := ⟨.hbm, 440, rfl⟩
abbrev main_cst_50 : Ref sig .tc := ⟨.hbm, 441, rfl⟩
abbrev main_call3_v0 : Ref sig .tc := ⟨.hbm, 442, rfl⟩
abbrev main_call3_v1 : Ref sig .tc := ⟨.hbm, 443, rfl⟩
abbrev main_call3_v2 : Ref sig .tc := ⟨.hbm, 444, rfl⟩
abbrev main_v297 : Ref sig .tc := ⟨.hbm, 445, rfl⟩
abbrev main_cst_51 : Ref sig .tc := ⟨.hbm, 446, rfl⟩
abbrev main_v298 : Ref sig .tc := ⟨.hbm, 447, rfl⟩
abbrev main_cst_52 : Ref sig .tc := ⟨.hbm, 448, rfl⟩
abbrev main_v299 : Ref sig .tc := ⟨.hbm, 449, rfl⟩
abbrev main_v300 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_cst_53 : Ref sig .tc := ⟨.hbm, 455, rfl⟩
abbrev main_v305 : Ref sig .tc := ⟨.hbm, 456, rfl⟩
abbrev main_v306 : Ref sig .tc := ⟨.hbm, 457, rfl⟩
abbrev main_v307 : Ref sig .tc := ⟨.hbm, 458, rfl⟩
abbrev main_v308 : Ref sig .tc := ⟨.hbm, 459, rfl⟩
abbrev main_v309 : Ref sig .tc := ⟨.hbm, 460, rfl⟩
abbrev main_v310 : Ref sig .tc := ⟨.hbm, 461, rfl⟩
abbrev main_v311 : Ref sig .tc := ⟨.hbm, 462, rfl⟩
abbrev main_v312 : Ref sig .tc := ⟨.hbm, 463, rfl⟩
abbrev main_v313 : Ref sig .tc := ⟨.hbm, 464, rfl⟩
abbrev main_v314 : Ref sig .tc := ⟨.hbm, 465, rfl⟩
abbrev main_v315 : Ref sig .tc := ⟨.hbm, 466, rfl⟩
abbrev main_v316 : Ref sig .tc := ⟨.hbm, 467, rfl⟩
abbrev main_cst_54 : Ref sig .tc := ⟨.hbm, 468, rfl⟩
abbrev main_v317 : Ref sig .tc := ⟨.hbm, 469, rfl⟩
abbrev main_v318 : Ref sig .tc := ⟨.hbm, 470, rfl⟩
abbrev main_cst_55 : Ref sig .tc := ⟨.hbm, 471, rfl⟩
abbrev main_v319 : Ref sig .tc := ⟨.hbm, 472, rfl⟩
abbrev main_v320 : Ref sig .tc := ⟨.hbm, 473, rfl⟩
abbrev main_c_56 : Ref sig .tc := ⟨.hbm, 474, rfl⟩
abbrev main_call4_cst : Ref sig .tc := ⟨.hbm, 475, rfl⟩
abbrev main_call4_v0 : Ref sig .tc := ⟨.hbm, 476, rfl⟩
abbrev main_call4_v1 : Ref sig .tc := ⟨.hbm, 477, rfl⟩
abbrev main_call4_cst_0 : Ref sig .tc := ⟨.hbm, 478, rfl⟩
abbrev main_call4_v2 : Ref sig .tc := ⟨.hbm, 479, rfl⟩
abbrev main_call4_v3 : Ref sig .tc := ⟨.hbm, 480, rfl⟩
abbrev main_call4_v4 : Ref sig .tc := ⟨.hbm, 481, rfl⟩
abbrev main_call4_v5 : Ref sig .tc := ⟨.hbm, 482, rfl⟩
abbrev main_call4_v6 : Ref sig .tc := ⟨.hbm, 483, rfl⟩
abbrev main_call4_v7 : Ref sig .tc := ⟨.hbm, 484, rfl⟩
abbrev main_call4_cst_1 : Ref sig .tc := ⟨.hbm, 485, rfl⟩
abbrev main_call4_v8 : Ref sig .tc := ⟨.hbm, 486, rfl⟩
abbrev main_call4_cst_2 : Ref sig .tc := ⟨.hbm, 487, rfl⟩
abbrev main_call4_v9 : Ref sig .tc := ⟨.hbm, 488, rfl⟩
abbrev main_call4_v10 : Ref sig .tc := ⟨.hbm, 489, rfl⟩
abbrev main_call4_v11 : Ref sig .tc := ⟨.hbm, 490, rfl⟩
abbrev main_call4_v12 : Ref sig .tc := ⟨.hbm, 491, rfl⟩
abbrev main_call4_cst_3 : Ref sig .tc := ⟨.hbm, 492, rfl⟩
abbrev main_call4_v13 : Ref sig .tc := ⟨.hbm, 493, rfl⟩
abbrev main_call4_cst_4 : Ref sig .tc := ⟨.hbm, 494, rfl⟩
abbrev main_call4_call0_v0 : Ref sig .tc := ⟨.hbm, 495, rfl⟩
abbrev main_call4_call0_v1 : Ref sig .tc := ⟨.hbm, 496, rfl⟩
abbrev main_v321 : Ref sig .tc := ⟨.hbm, 497, rfl⟩
abbrev main_v322 : Ref sig .tc := ⟨.hbm, 498, rfl⟩
abbrev main_v323 : Ref sig .tc := ⟨.hbm, 499, rfl⟩
abbrev main_cst_57 : Ref sig .tc := ⟨.hbm, 500, rfl⟩
abbrev main_v324 : Ref sig .tc := ⟨.hbm, 501, rfl⟩
abbrev main_v325 : Ref sig .tc := ⟨.hbm, 502, rfl⟩
abbrev main_v326 : Ref sig .tc := ⟨.hbm, 503, rfl⟩
abbrev main_v327 : Ref sig .tc := ⟨.hbm, 504, rfl⟩
abbrev main_v328 : Ref sig .tc := ⟨.hbm, 505, rfl⟩
abbrev main_v329 : Ref sig .tc := ⟨.hbm, 506, rfl⟩
abbrev main_v330 : Ref sig .tc := ⟨.hbm, 507, rfl⟩
abbrev main_v331 : Ref sig .tc := ⟨.hbm, 508, rfl⟩
abbrev main_v332 : Ref sig .tc := ⟨.hbm, 509, rfl⟩
abbrev main_v333 : Ref sig .tc := ⟨.hbm, 510, rfl⟩
abbrev main_v334 : Ref sig .tc := ⟨.hbm, 511, rfl⟩

abbrev nD : Nat := 1
abbrev τ : Topo := Topo.v7x

variable {F : FTy → Type} [FloatOps F]
-- ==== Proof.KernelIdeal.Bodies.lean ====
/-
  The three kernel bodies, each run once over whole staging buffers: what a body finds in its input buffers is left there,
  and its output buffer ends holding a named function of them (`queryOut`, `k1_pay1`, `fuseOut`).
-/
module

public import proofs.«01_k».proof.Proof.Gen.KernelIdeal.Launch
public import proofs.«01_k».proof.Proof.Gen.KernelIdeal.Skeleton
public import proofs.«01_k».proof.Proof.Gen.KernelIdeal.Regions
public import Idealize.ShloMosaic.Lib.Pipeline.FrameBody
public import Idealize.ShloMosaic.Lib.Pipeline.Value
public import Idealize.ShloMosaic.Lib.Tactic

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- Two copies of the rounds algebra: the launch's own, and the one the three regions run in. -/
abbrev UU : Type := UR sig nD τ × UR sig nD τ

local notation "𝕄" => MT nD τ sig Unit (Elt F) ℕ UU ℕ

theorem zeros2 : (![0, 0] : Fin 2 → Nat) = fun _ => 0 := by decide
theorem zeros3 : (![0, 0, 0] : Fin 3 → Nat) = fun _ => 0 := by decide

/-! ## Whole loads and whole stores -/

/-- A load through the rectangle at zero offsets reads the contents. -/
theorem load_whole {sp : Space} {S : Shape} {e : EltTy} (M : Memref sig .tc sp S e) {off : Fin S.rank → Nat}
    (h : off = fun _ => 0) (inb : ∀ a, off a + S.size a ≤ S.size a) (f : M.view.ty.Contents (Elt F))
    {X : S.Idx → Elt F e} (hf : M.view.read (Elt F) f = X) :
    M.view.readAt (Elt F) (Rect.unit off S.size inb).toLoadRect f = X :=
  (View.ld_unit_zero h inb _).trans hf

/-- A store through it leaves its payload. -/
theorem store_whole {sp : Space} {S : Shape} {e : EltTy} (M : Memref sig .tc sp S e) {off : Fin S.rank → Nat}
    (h : off = fun _ => 0) (inb : ∀ a, off a + S.size a ≤ S.size a) (f : M.view.ty.Contents (Elt F)) (w : S.Idx → Elt F e) :
    M.view.read (Elt F) (M.view.writes (Elt F) f [⟨Rect.unit off S.size inb, w⟩]) = w :=
  (View.read_writes_eq_canon M.view f _ fun y => ⟨_, List.mem_singleton_self _, View.mem_set_unit_zero h inb y⟩).trans
    (View.canon_unit_zero h inb w)

/-! ## What the bodies compute -/

/-- A query stage's row, from its nine input blocks. -/
def queryOut (x : Vec F S2048x1024 .f32) (w1 : Vec F S1x1024x1024 .f32) (b1 : Vec F S1x1x1024 .f32) (w2 : Vec F S1x1024x1024 .f32)
    (b2 g b : Vec F S1x1x1024 .f32) (pw : Vec F S1x1024x1024 .f32) (pb : Vec F S1x1x1024 .f32) : FVec F S1x1x1024 .f32 :=
  k0_pay1
    (k0_pay10 (k0_pay2 x w1 b1 w2 b2)
      (k0_pay7 (k0_pay2 x w1 b1 w2 b2) (k0_pay3 (F := F)) (k0_pay4 (F := F)) (k0_pay5 x w1 b1 w2 b2) (k0_pay6 (F := F)))
      (k0_pay8 (k0_pay2 x w1 b1 w2 b2)) (k0_pay9 (k0_pay3 (F := F))) g b)
    pw pb

/-- The fused block's last stage, over the projections and the first head's logits and maxima. -/
def fuseTail (v1 v9 : FVec F S2048x1024 .f32) (v15 v21 : FVec F S768x1024 .f32) (v26 : FVec F S768x128 .f32) (v34 : FVec F S2048x768 .f32)
    (v35 : FVec F S2048 .f32) (wo : Vec F S1024x1024 .f32) (bo g b : Vec F S1x1024 .f32) : FVec F S2048x1024 .f32 :=
  k2_pay1
    (k2_pay25 v1 v9 v15 v21 (k2_pay7 (F := F)) (k2_pay11 v26 v34 v35) (k2_pay12 v9 v15 v21 (k2_pay7 (F := F))) (k2_pay13 v9 v15 v21 (k2_pay7 (F := F)))
      (k2_pay17 (k2_pay14 v21) (k2_pay15 v9 v15 (k2_pay7 (F := F))) (k2_pay16 v9 v15 (k2_pay7 (F := F)))) (k2_pay18 v9 v15 v21 (k2_pay7 (F := F)))
      (k2_pay19 v9 v15 v21 (k2_pay7 (F := F))) (k2_pay20 v21) (k2_pay21 v9 v15 (k2_pay7 (F := F))) (k2_pay22 v9 v15 (k2_pay7 (F := F))) wo bo)
    (k2_pay26 v1 v9 v15 v21 (k2_pay7 (F := F)) (k2_pay11 v26 v34 v35) (k2_pay12 v9 v15 v21 (k2_pay7 (F := F))) (k2_pay13 v9 v15 v21 (k2_pay7 (F := F)))
      (k2_pay17 (k2_pay14 v21) (k2_pay15 v9 v15 (k2_pay7 (F := F))) (k2_pay16 v9 v15 (k2_pay7 (F := F)))) (k2_pay18 v9 v15 v21 (k2_pay7 (F := F)))
      (k2_pay19 v9 v15 v21 (k2_pay7 (F := F))) (k2_pay20 v21) (k2_pay21 v9 v15 (k2_pay7 (F := F))) (k2_pay22 v9 v15 (k2_pay7 (F := F))) wo bo)
    g b

/-- The fused block's result, from its twelve input blocks. -/
def fuseOut (x : Vec F S2048x1024 .f32) (kv : Vec F S768x1024 .f32) (wq : Vec F S1024x1024 .f32) (bq : Vec F S1x1024 .f32)
    (wk : Vec F S1024x1024 .f32) (bk : Vec F S1x1024 .f32) (wv : Vec F S1024x1024 .f32) (bv : Vec F S1x1024 .f32)
    (wo : Vec F S1024x1024 .f32) (bo g b : Vec F S1x1024 .f32) : FVec F S2048x1024 .f32 :=
  fuseTail (k2_pay2 x) (k2_pay4 x wq bq) (k2_pay5 kv wk bk) (k2_pay6 kv wv bv) (k2_pay8 kv wv bv) (k2_pay9 x kv wq bq wk bk)
    (k2_pay10 x kv wq bq wk bk) wo bo g b

/-! ## The runs -/

/-- The score body: the queries and a block of tokens stay, the scores become `k1_pay1` of them. -/
theorem scoresRun (c : Dev nD) (i : grid1.Coords)
    (M0 : Memref sig .tc .vmem S3x1024 .f32) (h0 : M0.IsWhole) (X0 : Vec F S3x1024 .f32)
    (M1 : Memref sig .tc .vmem S2048x1024 .f32) (h1 : M1.IsWhole) (X1 : Vec F S2048x1024 .f32)
    (M2 : Memref sig .tc .vmem S3x2048 .f32) (h2 : M2.IsWhole) (X2 : Vec F S3x2048 .f32)
    (K : PUnit → sProp 𝕄) :
    iprop(owns (c : Thread nD τ) M0 fullShare X0
        ∗ owns (c : Thread nD τ) M1 fullShare X1
        ∗ owns (c : Thread nD τ) M2 fullShare X2
        ∗ (iprop(owns (c : Thread nD τ) M0 fullShare X0
            ∗ owns (c : Thread nD τ) M1 fullShare X1
            ∗ owns (c : Thread nD τ) M2 fullShare (k1_pay1 i X0 X1)) -∗ K ⟨⟩))
      ⊢ wp frame (wpE (defs₀ (F := F)) Variants.none c none) Set.univ (cc1__scores_body i M0 h0 M1 h1 M2 h2) K := by
  simp only [cc1__scores_body_eq_skeleton]
  unfold cc1__scores_body_skel
  simp only [Prog.lift, Prog.bind_op, Prog.bind_ret, Prog.pure_eq_ret]
  unfold owns
  iintro ⟨⟨%f0, %e0, H0⟩, ⟨%f1, %e1, H1⟩, ⟨%f2, -, H2⟩, Hk⟩
  sl_exec
  sl_step
  iapply Hk
  isplitl [H0]
  · iexists _; isplitr; swap; (· iexact H0); ipureintro; exact e0
  isplitl [H1]
  · iexists _; isplitr; swap; (· iexact H1); ipureintro; exact e1
  iexists _; isplitr; swap; (· iexact H2)
  ipureintro
  refine (store_whole M2 zeros2 _ _ _).trans ?_
  rw [load_whole M0 zeros2 _ f0 e0]
  rw [load_whole M1 zeros2 _ f1 e1]

/-- The query body: the nine inputs stay, the row becomes `queryOut` of them. -/
theorem queryRun (c : Dev nD) (i : grid0.Coords)
    (M0 : Memref sig .tc .vmem S2048x1024 .f32) (h0 : M0.IsWhole) (X0 : Vec F S2048x1024 .f32)
    (M1 : Memref sig .tc .vmem S1x1024x1024 .f32) (h1 : M1.IsWhole) (X1 : Vec F S1x1024x1024 .f32)
    (M2 : Memref sig .tc .vmem S1x1x1024 .f32) (h2 : M2.IsWhole) (X2 : Vec F S1x1x1024 .f32)
    (M3 : Memref sig .tc .vmem S1x1024x1024 .f32) (h3 : M3.IsWhole) (X3 : Vec F S1x1024x1024 .f32)
    (M4 : Memref sig .tc .vmem S1x1x1024 .f32) (h4 : M4.IsWhole) (X4 : Vec F S1x1x1024 .f32)
    (M5 : Memref sig .tc .vmem S1x1x1024 .f32) (h5 : M5.IsWhole) (X5 : Vec F S1x1x1024 .f32)
    (M6 : Memref sig .tc .vmem S1x1x1024 .f32) (h6 : M6.IsWhole) (X6 : Vec F S1x1x1024 .f32)
    (M7 : Memref sig .tc .vmem S1x1024x1024 .f32) (h7 : M7.IsWhole) (X7 : Vec F S1x1024x1024 .f32)
    (M8 : Memref sig .tc .vmem S1x1x1024 .f32) (h8 : M8.IsWhole) (X8 : Vec F S1x1x1024 .f32)
    (M9 : Memref sig .tc .vmem S1x1x1024 .f32) (h9 : M9.IsWhole) (X9 : Vec F S1x1x1024 .f32)
    (K : PUnit → sProp 𝕄) :
    iprop(owns (c : Thread nD τ) M0 fullShare X0
        ∗ owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ owns (c : Thread nD τ) M6 fullShare X6
        ∗ owns (c : Thread nD τ) M7 fullShare X7
        ∗ owns (c : Thread nD τ) M8 fullShare X8
        ∗ owns (c : Thread nD τ) M9 fullShare X9
        ∗ (iprop(owns (c : Thread nD τ) M0 fullShare X0
            ∗ owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare X5
            ∗ owns (c : Thread nD τ) M6 fullShare X6
            ∗ owns (c : Thread nD τ) M7 fullShare X7
            ∗ owns (c : Thread nD τ) M8 fullShare X8
            ∗ owns (c : Thread nD τ) M9 fullShare (queryOut X0 X1 X2 X3 X4 X5 X6 X7 X8)) -∗ K ⟨⟩))
      ⊢ wp frame (wpE (defs₀ (F := F)) Variants.none c none) Set.univ (cc0__qgen_body i M0 h0 M1 h1 M2 h2 M3 h3 M4 h4 M5 h5 M6 h6 M7 h7 M8 h8 M9 h9) K := by
  simp only [cc0__qgen_body_eq_skeleton]
  unfold cc0__qgen_body_skel
  simp only [k0_part1_eq_skeleton, k0_part2_eq_skeleton, k0_part3_eq_skeleton]
  unfold k0_part1_skel k0_part2_skel k0_part3_skel
  simp only [Prog.lift, Prog.bind_op, Prog.bind_ret, Prog.pure_eq_ret]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, -, H9⟩, Hk⟩
  sl_exec
  sl_step
  iapply Hk
  isplitl [H0]
  · iexists _; isplitr; swap; (· iexact H0); ipureintro; exact e0
  isplitl [H1]
  · iexists _; isplitr; swap; (· iexact H1); ipureintro; exact e1
  isplitl [H2]
  · iexists _; isplitr; swap; (· iexact H2); ipureintro; exact e2
  isplitl [H3]
  · iexists _; isplitr; swap; (· iexact H3); ipureintro; exact e3
  isplitl [H4]
  · iexists _; isplitr; swap; (· iexact H4); ipureintro; exact e4
  isplitl [H5]
  · iexists _; isplitr; swap; (· iexact H5); ipureintro; exact e5
  isplitl [H6]
  · iexists _; isplitr; swap; (· iexact H6); ipureintro; exact e6
  isplitl [H7]
  · iexists _; isplitr; swap; (· iexact H7); ipureintro; exact e7
  isplitl [H8]
  · iexists _; isplitr; swap; (· iexact H8); ipureintro; exact e8
  iexists _; isplitr; swap; (· iexact H9)
  ipureintro
  refine (store_whole M9 zeros3 _ _ _).trans ?_
  rw [load_whole M0 zeros2 _ f0 e0]
  rw [load_whole M1 zeros3 _ f1 e1]
  rw [load_whole M2 zeros3 _ f2 e2]
  rw [load_whole M3 zeros3 _ f3 e3]
  rw [load_whole M4 zeros3 _ f4 e4]
  rw [load_whole M5 zeros3 _ f5 e5]
  rw [load_whole M6 zeros3 _ f6 e6]
  rw [load_whole M7 zeros3 _ f7 e7]
  rw [load_whole M8 zeros3 _ f8 e8]
  rfl

/-- The fused body: the twelve inputs stay, the result becomes `fuseOut` of them. -/
theorem fuseRun (c : Dev nD)
    (M0 : Memref sig .tc .vmem S2048x1024 .f32) (h0 : M0.IsWhole) (X0 : Vec F S2048x1024 .f32)
    (M1 : Memref sig .tc .vmem S768x1024 .f32) (h1 : M1.IsWhole) (X1 : Vec F S768x1024 .f32)
    (M2 : Memref sig .tc .vmem S1024x1024 .f32) (h2 : M2.IsWhole) (X2 : Vec F S1024x1024 .f32)
    (M3 : Memref sig .tc .vmem S1x1024 .f32) (h3 : M3.IsWhole) (X3 : Vec F S1x1024 .f32)
    (M4 : Memref sig .tc .vmem S1024x1024 .f32) (h4 : M4.IsWhole) (X4 : Vec F S1024x1024 .f32)
    (M5 : Memref sig .tc .vmem S1x1024 .f32) (h5 : M5.IsWhole) (X5 : Vec F S1x1024 .f32)
    (M6 : Memref sig .tc .vmem S1024x1024 .f32) (h6 : M6.IsWhole) (X6 : Vec F S1024x1024 .f32)
    (M7 : Memref sig .tc .vmem S1x1024 .f32) (h7 : M7.IsWhole) (X7 : Vec F S1x1024 .f32)
    (M8 : Memref sig .tc .vmem S1024x1024 .f32) (h8 : M8.IsWhole) (X8 : Vec F S1024x1024 .f32)
    (M9 : Memref sig .tc .vmem S1x1024 .f32) (h9 : M9.IsWhole) (X9 : Vec F S1x1024 .f32)
    (M10 : Memref sig .tc .vmem S1x1024 .f32) (h10 : M10.IsWhole) (X10 : Vec F S1x1024 .f32)
    (M11 : Memref sig .tc .vmem S1x1024 .f32) (h11 : M11.IsWhole) (X11 : Vec F S1x1024 .f32)
    (M12 : Memref sig .tc .vmem S2048x1024 .f32) (h12 : M12.IsWhole) (X12 : Vec F S2048x1024 .f32)
    (K : PUnit → sProp 𝕄) :
    iprop(owns (c : Thread nD τ) M0 fullShare X0
        ∗ owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ owns (c : Thread nD τ) M6 fullShare X6
        ∗ owns (c : Thread nD τ) M7 fullShare X7
        ∗ owns (c : Thread nD τ) M8 fullShare X8
        ∗ owns (c : Thread nD τ) M9 fullShare X9
        ∗ owns (c : Thread nD τ) M10 fullShare X10
        ∗ owns (c : Thread nD τ) M11 fullShare X11
        ∗ owns (c : Thread nD τ) M12 fullShare X12
        ∗ (iprop(owns (c : Thread nD τ) M0 fullShare X0
            ∗ owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare X5
            ∗ owns (c : Thread nD τ) M6 fullShare X6
            ∗ owns (c : Thread nD τ) M7 fullShare X7
            ∗ owns (c : Thread nD τ) M8 fullShare X8
            ∗ owns (c : Thread nD τ) M9 fullShare X9
            ∗ owns (c : Thread nD τ) M10 fullShare X10
            ∗ owns (c : Thread nD τ) M11 fullShare X11
            ∗ owns (c : Thread nD τ) M12 fullShare (fuseOut X0 X1 X2 X3 X4 X5 X6 X7 X8 X9 X10 X11)) -∗ K ⟨⟩))
      ⊢ wp frame (wpE (defs₀ (F := F)) Variants.none c none) Set.univ (cc2__fuse_body M0 h0 M1 h1 M2 h2 M3 h3 M4 h4 M5 h5 M6 h6 M7 h7 M8 h8 M9 h9 M10 h10 M11 h11 M12 h12) K := by
  simp only [cc2__fuse_body_eq_skeleton]
  unfold cc2__fuse_body_skel
  simp only [k2_part1_eq_skeleton, k2_part2_eq_skeleton, k2_part3_eq_skeleton, k2_part4_eq_skeleton]
  unfold k2_part1_skel k2_part2_skel k2_part3_skel k2_part4_skel
  simp only [Prog.lift, Prog.bind_op, Prog.bind_ret, Prog.pure_eq_ret]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, -, H12⟩, Hk⟩
  sl_exec
  sl_step
  iapply Hk
  isplitl [H0]
  · iexists _; isplitr; swap; (· iexact H0); ipureintro; exact e0
  isplitl [H1]
  · iexists _; isplitr; swap; (· iexact H1); ipureintro; exact e1
  isplitl [H2]
  · iexists _; isplitr; swap; (· iexact H2); ipureintro; exact e2
  isplitl [H3]
  · iexists _; isplitr; swap; (· iexact H3); ipureintro; exact e3
  isplitl [H4]
  · iexists _; isplitr; swap; (· iexact H4); ipureintro; exact e4
  isplitl [H5]
  · iexists _; isplitr; swap; (· iexact H5); ipureintro; exact e5
  isplitl [H6]
  · iexists _; isplitr; swap; (· iexact H6); ipureintro; exact e6
  isplitl [H7]
  · iexists _; isplitr; swap; (· iexact H7); ipureintro; exact e7
  isplitl [H8]
  · iexists _; isplitr; swap; (· iexact H8); ipureintro; exact e8
  isplitl [H9]
  · iexists _; isplitr; swap; (· iexact H9); ipureintro; exact e9
  isplitl [H10]
  · iexists _; isplitr; swap; (· iexact H10); ipureintro; exact e10
  isplitl [H11]
  · iexists _; isplitr; swap; (· iexact H11); ipureintro; exact e11
  iexists _; isplitr; swap; (· iexact H12)
  ipureintro
  refine (store_whole M12 zeros2 _ _ _).trans ?_
  rw [load_whole M0 zeros2 _ f0 e0]
  rw [load_whole M1 zeros2 _ f1 e1]
  rw [load_whole M2 zeros2 _ f2 e2]
  rw [load_whole M3 zeros2 _ f3 e3]
  rw [load_whole M4 zeros2 _ f4 e4]
  rw [load_whole M5 zeros2 _ f5 e5]
  rw [load_whole M6 zeros2 _ f6 e6]
  rw [load_whole M7 zeros2 _ f7 e7]
  rw [load_whole M8 zeros2 _ f8 e8]
  rw [load_whole M9 zeros2 _ f9 e9]
  rw [load_whole M10 zeros2 _ f10 e10]
  rw [load_whole M11 zeros2 _ f11 e11]
  rfl

end Cert.KernelIdeal.Own

end
-- ==== Proof.KernelIdeal.Region.lean ====
/-
  One kernel region of @main as a piece of the host's program: entered with every unscoped buffer at a valuation, left with
  the output array at some contents the write-backs may produce and every other buffer as it was.
-/
module

public import proofs.«01_k».proof.Proof.KernelIdeal.Bodies
public import Idealize.ShloMosaic.Lib.Pipeline.Regions

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

abbrev 𝒱₀ : Variants := Variants.none
/-- No core owes another anything: no level is assigned. -/
abbrev L : GSem nD τ sig → Finset Unit := fun _ => ∅
abbrev lv : GSem nD τ sig → Unit → ℕ := fun _ _ => 0

/-- Proof data for the three pipelines, on every core. -/
abbrev Rds (F : FTy → Type) [FloatOps F] [∀ e, Nonempty (Elt F e)] : Type _ :=
  (p : Fin 3) → (c : Dev nD) → Pipeline.RDat τ (Elt F) Unit ℕ UU ℕ (Pipeline.pin (pcfgs (F := F)) adm p) c

/-- The core owes nothing. -/
abbrev owesNone (c : Dev nD) : sProp 𝕄 := iprop(∃ W, owes (c : Thread nD τ) (0 : CellTallies nD τ sig Unit) W)

/-- Every unscoped buffer of core `c` at a valuation. -/
abbrev heldAt (c : Dev nD) (V : Valuation τ sig (Elt F)) : sProp 𝕄 :=
  StableHlo.held (c : Thread nD τ) (Pipeline.ucRefs τ sig) V

/-- A region's layout and data, at an entry valuation, with one output window `wo`. -/
structure Entry (p : Fin 3) (rds : Rds F) (V : Dev nD → Valuation τ sig (Elt F))
    (wo : Fin (Pipeline.pin (pcfgs (F := F)) adm p).W) : Prop where
  kit : Pipeline.LaunchFacts (nD := nD) (τ := τ) (Pipeline.pin (pcfgs (F := F)) adm) p
  hA : ∀ c w, (rds p c).A w = V c (Proc.devRef .tc (Pipeline.arrRef (Pipeline.pin (pcfgs (F := F)) adm p).spec w))
  hq : ∀ c w, (rds p c).q w = fullShare
  howed : ∀ c t, (rds p c).owed t = 0
  hrec : ∀ c t, (rds p c).recorded t = Set.univ
  hΦ : ∀ c t, (rds p c).Φ t = Pipeline.scopedRest (Pipeline.pin (pcfgs (F := F)) adm p).spec c
  hpre : ∀ c, (BI.emp : sProp 𝕄) ⊢ Pipeline.prefHeld (pcfgs (F := F) p).pre c (fun _ => fullShare) (adm (F := F) p).1
  hbody : ∀ c, (rds p c).BodyObligation (defs₀ (F := F)) 𝒱₀ () Set.univ
  hout : ∀ w, w ≠ wo → ((Pipeline.pin (pcfgs (F := F)) adm p).win w).isOut = false

/-- The valuation with one window's array changed. -/
abbrev setArr (p : Fin 3) (wo : Fin (Pipeline.pin (pcfgs (F := F)) adm p).W) (c : Dev nD) (V : Valuation τ sig (Elt F))
    (G : Buf (Elt F) ((c : Thread nD τ).loc (Pipeline.arrRef (Pipeline.pin (pcfgs (F := F)) adm p).spec wo))) : Valuation τ sig (Elt F) :=
  Function.update V (Proc.devRef .tc (Pipeline.arrRef (Pipeline.pin (pcfgs (F := F)) adm p).spec wo)) G

/-- One window taken out of a separating product over all of them. -/
theorem takeOut {n : ℕ} (i : Fin n) (Φ : Fin n → sProp 𝕄) :
    bigSep Finset.univ Φ = iprop(Φ i ∗ bigSep (Finset.univ.erase i) Φ) := BI.bigSep_erase (Finset.mem_univ i)

/-- Contents with only one possible value. -/
theorem pinned {α : Type} {a : α} {φ : α → Prop} (h : ∀ x, φ x → x = a) (P : α → sProp 𝕄) : iprop(∃ x, ⌜φ x⌝ ∗ P x) ⊢ P a := by
  iintro ⟨%x, %hx, H⟩
  rw [h x hx]
  iexact H

set_option backward.isDefEq.respectTransparency.types false in
/-- The arrays as the write-backs leave them, put back among the unscoped buffers. -/
theorem exit_arrays {p : Fin 3} {rds : Rds F} {V : Dev nD → Valuation τ sig (Elt F)}
    {wo : Fin (Pipeline.pin (pcfgs (F := F)) adm p).W} (h : Entry p rds V wo) (c : Dev nD) :
    iprop((rds p c).arraysAt (Pipeline.pin (pcfgs (F := F)) adm p).N
        ∗ Pipeline.unscopedRest (Pipeline.pin (pcfgs (F := F)) adm p).spec c (fun b => V c (Proc.devRef .tc b)))
      ⊢ (iprop(∃ G, ⌜(rds p c).ArrAt wo (Pipeline.pin (pcfgs (F := F)) adm p).N G⌝ ∗ heldAt c (setArr p wo c (V c) G)) : sProp 𝕄) := by
  classical
  rw [Pipeline.RDat.arraysAt_eq (pcfgs (F := F)) adm rds p c h.kit.arr_whole ((rds p c).share_full (h.hq c)),
    takeOut wo]
  iintro ⟨⟨⟨%G, %hG, HG⟩, Hrest⟩, Hu⟩
  iexists G
  isplitr; · ipureintro; exact hG
  have hne : ∀ w, w ≠ wo → Proc.devRef (τ := τ) .tc (Pipeline.arrRef (Pipeline.pin (pcfgs (F := F)) adm p).spec w)
      ≠ Proc.devRef .tc (Pipeline.arrRef (Pipeline.pin (pcfgs (F := F)) adm p).spec wo) := fun w hw he =>
    hw (h.kit.win.arr_inj (Proc.devRef_injective _ he))
  have h1 : (bigSep (Finset.univ.erase wo) fun w => iprop(∃ F', ⌜(rds p c).ArrAt w (Pipeline.pin (pcfgs (F := F)) adm p).N F'⌝
        ∗ (((c.tc : Thread nD τ).loc (Pipeline.arrRef (Pipeline.pin (pcfgs (F := F)) adm p).spec w)) ↦{fullShare} F' : sProp 𝕄)))
      ⊢ bigSep (Finset.univ.erase wo) fun w => (((c.tc : Thread nD τ).loc (Pipeline.arrRef (Pipeline.pin (pcfgs (F := F)) adm p).spec w))
          ↦{fullShare} setArr p wo c (V c) G (Proc.devRef .tc (Pipeline.arrRef (Pipeline.pin (pcfgs (F := F)) adm p).spec w)) : sProp 𝕄) :=
    bigSep_mono fun w hw => by
      have hw' := (Finset.mem_erase.mp hw).1
      refine pinned (fun F' hF => ?_) (fun F' => (((c.tc : Thread nD τ).loc (Pipeline.arrRef (Pipeline.pin (pcfgs (F := F)) adm p).spec w)) ↦{fullShare} F' : sProp 𝕄))
      rw [Pipeline.RDat.ArrAt_in _ w (h.hout w hw')] at hF
      exact (show F' = _ from hF).trans ((h.hA c w).trans (Function.update_of_ne (hne w hw') _ _).symm)
  have h2 : (Pipeline.unscopedRest (Pipeline.pin (pcfgs (F := F)) adm p).spec c (fun b => V c (Proc.devRef .tc b)) : sProp 𝕄)
      = Pipeline.unscopedRest (Pipeline.pin (pcfgs (F := F)) adm p).spec c (fun b => setArr p wo c (V c) G (Proc.devRef .tc b)) := by
    unfold Pipeline.unscopedRest
    exact bigSep_congr fun b hb => congrArg (fun f => (((c.tc : Thread nD τ).loc b) ↦{fullShare} f : sProp 𝕄))
      (Function.update_of_ne (fun he => (Finset.mem_sdiff.mp hb).2 (Finset.mem_image.mpr
        ⟨wo, Finset.mem_univ _, (Proc.devRef_injective _ he).symm⟩)) _ _).symm
  have h3 : heldAt c (setArr p wo c (V c) G) = iprop(((((c.tc : Thread nD τ).loc (Pipeline.arrRef (Pipeline.pin (pcfgs (F := F)) adm p).spec wo)) ↦{fullShare} G : sProp 𝕄)
      ∗ bigSep (Finset.univ.erase wo) fun w => (((c.tc : Thread nD τ).loc (Pipeline.arrRef (Pipeline.pin (pcfgs (F := F)) adm p).spec w))
          ↦{fullShare} setArr p wo c (V c) G (Proc.devRef .tc (Pipeline.arrRef (Pipeline.pin (pcfgs (F := F)) adm p).spec w)) : sProp 𝕄))
      ∗ Pipeline.unscopedRest (Pipeline.pin (pcfgs (F := F)) adm p).spec c (fun b => setArr p wo c (V c) G (Proc.devRef .tc b))) := by
    refine (Pipeline.unscopedBufs_held (Ix := Unit) (Name := ℕ) (U := UU) (Lvl := ℕ) c (setArr p wo c (V c) G)).symm.trans
      ((Pipeline.unscopedBufs_split (Pipeline.pin (pcfgs (F := F)) adm) p h.kit.win.arr_unscoped h.kit.win.arr_inj c
        (fun b => setArr p wo c (V c) G (Proc.devRef .tc b))).trans ?_)
    rw [takeOut wo]
    exact congrArg (fun f => iprop(((((c.tc : Thread nD τ).loc (Pipeline.arrRef (Pipeline.pin (pcfgs (F := F)) adm p).spec wo)) ↦{fullShare} f : sProp 𝕄)
      ∗ bigSep (Finset.univ.erase wo) fun w => (((c.tc : Thread nD τ).loc (Pipeline.arrRef (Pipeline.pin (pcfgs (F := F)) adm p).spec w))
          ↦{fullShare} setArr p wo c (V c) G (Proc.devRef .tc (Pipeline.arrRef (Pipeline.pin (pcfgs (F := F)) adm p).spec w)) : sProp 𝕄))
      ∗ Pipeline.unscopedRest (Pipeline.pin (pcfgs (F := F)) adm p).spec c (fun b => setArr p wo c (V c) G (Proc.devRef .tc b))))
      (Function.update_self _ _ _)
  rw [h2, h3]
  exact sep_mono (sep_mono .rfl h1) .rfl

set_option backward.isDefEq.respectTransparency.types false in
/-- THE REGION, between two thread states over the unscoped buffers. -/
def regionOf {p : Fin 3} {rds : Rds F} {V : Dev nD → Valuation τ sig (Elt F)}
    {wo : Fin (Pipeline.pin (pcfgs (F := F)) adm p).W} (h : Entry p rds V wo) (R : Dev nD → sProp 𝕄) :
    Pipeline.RDat.RegionSeg (pcfgs (F := F)) adm rds () defs₀ 𝒱₀ L lv p where
  win := h.kit.win.to₀
  block_pos := h.kit.block_pos
  stage_whole := h.kit.stage_whole
  K := PEmpty
  osem k := k.elim
  ho := Pipeline.OwnSemFacts.none _
  hbody := h.hbody
  hwaits := Pipeline.RDat.hwaits_of_owed_zero _ _ _ _ L lv p h.howed
  pre c := iprop(heldAt c (V c) ∗ R c ∗ owesNone c)
  post c := iprop(∃ G, ⌜(rds p c).ArrAt wo (Pipeline.pin (pcfgs (F := F)) adm p).N G⌝ ∗ heldAt c (setArr p wo c (V c) G) ∗ R c ∗ owesNone c)
  X _ := BI.emp
  Y _ := BI.emp
  Z c := iprop(Pipeline.unscopedRest (Ix := Unit) (Name := ℕ) (U := UU) (Lvl := ℕ) (Pipeline.pin (pcfgs (F := F)) adm p).spec c
    (fun b => V c (Proc.devRef .tc b)) ∗ R c)
  hentry c := by
    have hsplit := Pipeline.RDat.arrays_of_unscopedBufs (p := p) (pcfgs (F := F)) adm rds h.kit.win h.kit.arr_whole c
      ((rds p c).share_full (h.hq c)) (fun b => V c (Proc.devRef .tc b)) (h.hA c)
    rw [Pipeline.ownSems0_none,
      show heldAt c (V c) = unscopedBufs c (fun b => V c (Proc.devRef .tc b))
        from (Pipeline.unscopedBufs_held (Ix := Unit) (Name := ℕ) (U := UU) (Lvl := ℕ) c (V c)).symm]
    iintro ⟨⟨Hub, HR, HO⟩, -, -⟩
    ihave H := hsplit $$ Hub
    icases H with ⟨Ha, Hrest⟩
    imodintro
    isplitl [Ha]; · iexact Ha
    isplitr; · iapply (h.hpre c); iempintro
    isplitl [HO]
    · unfold Pipeline.RDat.owesAt Pipeline.owesWithin
      rw [h.howed]
      icases HO with ⟨%W, HO⟩; iexists W; isplitr
      · ipureintro; intro x hx; exact Or.inl (by rw [h.hrec]; trivial)
      iexact HO
    isplitr; · iempintro
    isplitl [Hrest] <;> iassumption
  hin c := by
    rw [h.hΦ]
    iintro ⟨-, -, Hr⟩; iexact Hr
  hout c := by
    rw [Pipeline.ownSems0_none, h.hΦ]
    iintro Hr
    isplitr; · iempintro
    isplitr; · iempintro
    iexact Hr
  hexit c := by
    iintro ⟨Ha, HO, -, Hrest, HR⟩
    imodintro
    ihave H := (exit_arrays h c) $$ [Ha Hrest]
    · isplitl [Ha] <;> iassumption
    icases H with ⟨%G, %hG, H⟩
    iexists G
    isplitr; · ipureintro; exact hG
    isplitl [H]; · iexact H
    isplitl [HR]; · iexact HR
    unfold Pipeline.RDat.owesAt Pipeline.owesWithin
    rw [h.howed]
    icases HO with ⟨%W, -, HO⟩; iexists W; iexact HO

end Cert.KernelIdeal.Own

end
-- ==== Proof.KernelIdeal.Regs.lean ====
/-
  The three regions' data: what each window's buffer holds when a body runs and what the body leaves, the output window's
  contents given by `queryOut`, `k1_pay1` and `fuseOut` of the blocks at the point; and the three regions as pieces of @main.
-/
module

public import proofs.«01_k».proof.Proof.KernelIdeal.Region
public import proofs.«01_k».proof.Proof.Gen.KernelIdeal.Points

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

theorem defs₀_row0 (t : Fin cfg0.N) : defs₀ (F := F) .tc cfg0.body (cfg0.bodyArgs t (cfg0.slots t)) = bodyAt0 t := by
  unfold defs₀; rw [Defs.onTc_tc]
theorem defs₀_row1 (t : Fin cfg1.N) : defs₀ (F := F) .tc cfg1.body (cfg1.bodyArgs t (cfg1.slots t)) = bodyAt1 t := by
  unfold defs₀; rw [Defs.onTc_tc]
theorem defs₀_row2 (t : Fin cfg2.N) : defs₀ (F := F) .tc cfg2.body (cfg2.bodyArgs t (cfg2.slots t)) = bodyAt2 t := by
  unfold defs₀; rw [Defs.onTc_tc]

/-- The data of a pipeline a region does not run: anything. -/
def idle {cfg : Pipeline.Cfg sig Λ₀} (c : Dev nD) : Pipeline.RDat τ (Elt F) Unit ℕ UU ℕ cfg c where
  A _ := fun _ => Classical.arbitrary _
  after _ _ _ _ := True
  Φ _ := BI.emp
  q _ := fullShare
  owed _ := 0

variable (V : Dev nD → Valuation τ sig (Elt F))

/-! ## Region 0 -/

abbrev in0_0 (c : Dev nD) (t : Fin cfg0.N) : Vec F S2048x1024 .f32 :=
  ((cfg0.win 0).blk t).view.read (Elt F) (V c (Proc.devRef .tc (Pipeline.arrRef spec0 0)))
abbrev in0_1 (c : Dev nD) (t : Fin cfg0.N) : Vec F S1x1024x1024 .f32 :=
  ((cfg0.win 1).blk t).view.read (Elt F) (V c (Proc.devRef .tc (Pipeline.arrRef spec0 1)))
abbrev in0_2 (c : Dev nD) (t : Fin cfg0.N) : Vec F S1x1x1024 .f32 :=
  ((cfg0.win 2).blk t).view.read (Elt F) (V c (Proc.devRef .tc (Pipeline.arrRef spec0 2)))
abbrev in0_3 (c : Dev nD) (t : Fin cfg0.N) : Vec F S1x1024x1024 .f32 :=
  ((cfg0.win 3).blk t).view.read (Elt F) (V c (Proc.devRef .tc (Pipeline.arrRef spec0 3)))
abbrev in0_4 (c : Dev nD) (t : Fin cfg0.N) : Vec F S1x1x1024 .f32 :=
  ((cfg0.win 4).blk t).view.read (Elt F) (V c (Proc.devRef .tc (Pipeline.arrRef spec0 4)))
abbrev in0_5 (c : Dev nD) (t : Fin cfg0.N) : Vec F S1x1x1024 .f32 :=
  ((cfg0.win 5).blk t).view.read (Elt F) (V c (Proc.devRef .tc (Pipeline.arrRef spec0 5)))
abbrev in0_6 (c : Dev nD) (t : Fin cfg0.N) : Vec F S1x1x1024 .f32 :=
  ((cfg0.win 6).blk t).view.read (Elt F) (V c (Proc.devRef .tc (Pipeline.arrRef spec0 6)))
abbrev in0_7 (c : Dev nD) (t : Fin cfg0.N) : Vec F S1x1024x1024 .f32 :=
  ((cfg0.win 7).blk t).view.read (Elt F) (V c (Proc.devRef .tc (Pipeline.arrRef spec0 7)))
abbrev in0_8 (c : Dev nD) (t : Fin cfg0.N) : Vec F S1x1x1024 .f32 :=
  ((cfg0.win 8).blk t).view.read (Elt F) (V c (Proc.devRef .tc (Pipeline.arrRef spec0 8)))

/-- What the region leaves in its output buffer at a point. -/
def left0 (c : Dev nD) (t : Fin cfg0.N) (X : Vec F S1x1x1024 .f32) : Prop :=
  X = queryOut (in0_0 V c t) (in0_1 V c t) (in0_2 V c t) (in0_3 V c t) (in0_4 V c t) (in0_5 V c t) (in0_6 V c t) (in0_7 V c t) (in0_8 V c t)

/-- Region 0's data: the inputs' buffers are left as found, the output's as `left0` says. -/
def rdat0 (c : Dev nD) : Pipeline.RDat τ (Elt F) Unit ℕ UU ℕ cfg0 c where
  A w := V c (Proc.devRef .tc (Pipeline.arrRef spec0 w))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun _ X => left0 V c t X
  Φ _ := Pipeline.scopedRest (Ix := Unit) (Name := ℕ) (U := UU) (Lvl := ℕ) (Val := Elt F) spec0 c
  q _ := fullShare
  owed _ := 0

/-- The three pipelines' data while region 0 runs. -/
def rds0 : Rds F
  | ⟨0, _⟩ => fun c => rdat0 V c
  | ⟨1, _⟩ => fun c => idle c
  | ⟨2, _⟩ => fun c => idle c

theorem finds0_0 (c : Dev nD) (t : Fin cfg0.N) (Y) (h : (rdat0 V c).Finds 0 t Y) : Y = in0_0 V c t := by
  obtain ⟨d, hd⟩ := (rdat0 V c).finds_in_eq_fetched 0 rfl (fun _ _ _ => rfl) (fun _ _ _ h => h) t Y h
  exact hd
theorem finds0_1 (c : Dev nD) (t : Fin cfg0.N) (Y) (h : (rdat0 V c).Finds 1 t Y) : Y = in0_1 V c t := by
  obtain ⟨d, hd⟩ := (rdat0 V c).finds_in_eq_fetched 1 rfl (fun _ _ _ => rfl) (fun _ _ _ h => h) t Y h
  exact hd
theorem finds0_2 (c : Dev nD) (t : Fin cfg0.N) (Y) (h : (rdat0 V c).Finds 2 t Y) : Y = in0_2 V c t := by
  obtain ⟨d, hd⟩ := (rdat0 V c).finds_in_eq_fetched 2 rfl (fun _ _ _ => rfl) (fun _ _ _ h => h) t Y h
  exact hd
theorem finds0_3 (c : Dev nD) (t : Fin cfg0.N) (Y) (h : (rdat0 V c).Finds 3 t Y) : Y = in0_3 V c t := by
  obtain ⟨d, hd⟩ := (rdat0 V c).finds_in_eq_fetched 3 rfl (fun _ _ _ => rfl) (fun _ _ _ h => h) t Y h
  exact hd
theorem finds0_4 (c : Dev nD) (t : Fin cfg0.N) (Y) (h : (rdat0 V c).Finds 4 t Y) : Y = in0_4 V c t := by
  obtain ⟨d, hd⟩ := (rdat0 V c).finds_in_eq_fetched 4 rfl (fun _ _ _ => rfl) (fun _ _ _ h => h) t Y h
  exact hd
theorem finds0_5 (c : Dev nD) (t : Fin cfg0.N) (Y) (h : (rdat0 V c).Finds 5 t Y) : Y = in0_5 V c t := by
  obtain ⟨d, hd⟩ := (rdat0 V c).finds_in_eq_fetched 5 rfl (fun _ _ _ => rfl) (fun _ _ _ h => h) t Y h
  exact hd
theorem finds0_6 (c : Dev nD) (t : Fin cfg0.N) (Y) (h : (rdat0 V c).Finds 6 t Y) : Y = in0_6 V c t := by
  obtain ⟨d, hd⟩ := (rdat0 V c).finds_in_eq_fetched 6 rfl (fun _ _ _ => rfl) (fun _ _ _ h => h) t Y h
  exact hd
theorem finds0_7 (c : Dev nD) (t : Fin cfg0.N) (Y) (h : (rdat0 V c).Finds 7 t Y) : Y = in0_7 V c t := by
  obtain ⟨d, hd⟩ := (rdat0 V c).finds_in_eq_fetched 7 rfl (fun _ _ _ => rfl) (fun _ _ _ h => h) t Y h
  exact hd
theorem finds0_8 (c : Dev nD) (t : Fin cfg0.N) (Y) (h : (rdat0 V c).Finds 8 t Y) : Y = in0_8 V c t := by
  obtain ⟨d, hd⟩ := (rdat0 V c).finds_in_eq_fetched 8 rfl (fun _ _ _ => rfl) (fun _ _ _ h => h) t Y h
  exact hd

theorem body0 (c : Dev nD) : (rdat0 V c).BodyObligation (defs₀ (F := F)) 𝒱₀ () Set.univ := fun t Y hY => by
  rw [bigSep_W0, bigSep_W0, defs₀_row0]
  rw [show (rdat0 V c).Φ t.succ = (rdat0 V c).Φ t.castSucc from rfl,
    show (rdat0 V c).owesAt () t.succ = (rdat0 V c).owesAt () t.castSucc from rfl]
  have e0 := finds0_0 V c t _ (hY 0)
  have e1 := finds0_1 V c t _ (hY 1)
  have e2 := finds0_2 V c t _ (hY 2)
  have e3 := finds0_3 V c t _ (hY 3)
  have e4 := finds0_4 V c t _ (hY 4)
  have e5 := finds0_5 V c t _ (hY 5)
  have e6 := finds0_6 V c t _ (hY 6)
  have e7 := finds0_7 V c t _ (hY 7)
  have e8 := finds0_8 V c t _ (hY 8)
  iintro ⟨HΦ, Howes, H0, H1, H2, H3, H4, H5, H6, H7, H8, H9⟩
  iapply (queryRun c (grid0.coords t) _ _ (Y 0) _ _ (Y 1) _ _ (Y 2) _ _ (Y 3) _ _ (Y 4) _ _ (Y 5) _ _ (Y 6) _ _ (Y 7) _ _ (Y 8) _ _ (Y 9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact rfl
  isplitl [H8]; · iexists _; isplitr; swap; (· iexact H8); ipureintro; exact rfl
  iexists _; isplitr; swap; (· iexact H9)
  ipureintro
  rw [e0, e1, e2, e3, e4, e5, e6, e7, e8]
  exact rfl

theorem only0 : ∀ w : Fin cfg0.W, w ≠ 9 → (cfg0.win w).isOut = false := by decide

theorem noTable0 (c : Dev nD) : (BI.emp : sProp 𝕄) ⊢ Pipeline.prefHeld (pcfgs (F := F) 0).pre c (fun _ => fullShare) (adm (F := F) 0).1 := by
  unfold Pipeline.prefHeld; rw [show (Finset.univ : Finset (Fin 0)) = ∅ from rfl, BI.bigSep_empty]

theorem phi0 (c : Dev nD) (t : Fin (cfg0.N + 1)) : (rdat0 V c).Φ t = (Pipeline.scopedRest spec0 c : sProp 𝕄) := rfl

theorem entry0 : Entry 0 (rds0 V) V (9 : Fin cfg0.W) :=
  Entry.mk launch0 (fun c w => (rfl : (rdat0 V c).A w = V c (Proc.devRef .tc (Pipeline.arrRef spec0 w)))) (fun _ _ => rfl) (fun _ _ => rfl) (fun _ _ => rfl) (phi0 V)
    (noTable0) (fun c => body0 V c) only0

/-! ## Region 1 -/

abbrev in1_0 (c : Dev nD) (t : Fin cfg1.N) : Vec F S3x1024 .f32 :=
  ((cfg1.win 0).blk t).view.read (Elt F) (V c (Proc.devRef .tc (Pipeline.arrRef spec1 0)))
/-- Window 1's block at a point, over what the staging buffer held past the array's end. -/
abbrev in1_1 (c : Dev nD) (t : Fin cfg1.N) (d : (cfg1.win 1).block.Idx → Elt F (cfg1.win 1).elt) : Vec F S2048x1024 .f32 :=
  (cfg1.win 1).fill (cfg1.grid.coords t) d (((cfg1.win 1).blk t).view.read (Elt F) (V c (Proc.devRef .tc (Pipeline.arrRef spec1 1))))

/-- What the region leaves in its output buffer at a point. -/
def left1 (c : Dev nD) (t : Fin cfg1.N) (X : Vec F S3x2048 .f32) : Prop :=
  ∃ d : (cfg1.win 1).block.Idx → Elt F (cfg1.win 1).elt, X = k1_pay1 (grid1.coords t) (in1_0 V c t) (in1_1 V c t d)

/-- Region 1's data: the inputs' buffers are left as found, the output's as `left1` says. -/
def rdat1 (c : Dev nD) : Pipeline.RDat τ (Elt F) Unit ℕ UU ℕ cfg1 c where
  A w := V c (Proc.devRef .tc (Pipeline.arrRef spec1 w))
  after w t := match w with
    | ⟨0, _⟩ => fun Y X => X = Y
    | ⟨1, _⟩ => fun Y X => X = Y
    | ⟨2, _⟩ => fun _ X => left1 V c t X
  Φ _ := Pipeline.scopedRest (Ix := Unit) (Name := ℕ) (U := UU) (Lvl := ℕ) (Val := Elt F) spec1 c
  q _ := fullShare
  owed _ := 0

/-- The three pipelines' data while region 1 runs. -/
def rds1 : Rds F
  | ⟨0, _⟩ => fun c => idle c
  | ⟨1, _⟩ => fun c => rdat1 V c
  | ⟨2, _⟩ => fun c => idle c

theorem finds1_0 (c : Dev nD) (t : Fin cfg1.N) (Y) (h : (rdat1 V c).Finds 0 t Y) : Y = in1_0 V c t := by
  obtain ⟨d, hd⟩ := (rdat1 V c).finds_in_eq_fetched 0 rfl (fun _ _ _ => rfl) (fun _ _ _ h => h) t Y h
  exact hd
theorem finds1_1 (c : Dev nD) (t : Fin cfg1.N) (Y) (h : (rdat1 V c).Finds 1 t Y) : ∃ d, Y = in1_1 V c t d :=
  ((rdat1 V c).finds_of_fetch (fetch1_1 t) Y).mp h

theorem body1 (c : Dev nD) : (rdat1 V c).BodyObligation (defs₀ (F := F)) 𝒱₀ () Set.univ := fun t Y hY => by
  rw [bigSep_W1, bigSep_W1, defs₀_row1]
  rw [show (rdat1 V c).Φ t.succ = (rdat1 V c).Φ t.castSucc from rfl,
    show (rdat1 V c).owesAt () t.succ = (rdat1 V c).owesAt () t.castSucc from rfl]
  have e0 := finds1_0 V c t _ (hY 0)
  obtain ⟨d, e1⟩ := finds1_1 V c t _ (hY 1)
  iintro ⟨HΦ, Howes, H0, H1, H2⟩
  iapply (scoresRun c (grid1.coords t) _ _ (Y 0) _ _ (Y 1) _ _ (Y 2) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; exact rfl
  isplitl [H1]; · iexists _; isplitr; swap; (· iexact H1); ipureintro; exact rfl
  iexists _; isplitr; swap; (· iexact H2)
  ipureintro
  rw [e0, e1]
  exact ⟨d, rfl⟩

theorem only1 : ∀ w : Fin cfg1.W, w ≠ 2 → (cfg1.win w).isOut = false := by decide

theorem noTable1 (c : Dev nD) : (BI.emp : sProp 𝕄) ⊢ Pipeline.prefHeld (pcfgs (F := F) 1).pre c (fun _ => fullShare) (adm (F := F) 1).1 := by
  unfold Pipeline.prefHeld; rw [show (Finset.univ : Finset (Fin 0)) = ∅ from rfl, BI.bigSep_empty]

theorem phi1 (c : Dev nD) (t : Fin (cfg1.N + 1)) : (rdat1 V c).Φ t = (Pipeline.scopedRest spec1 c : sProp 𝕄) := rfl

theorem entry1 : Entry 1 (rds1 V) V (2 : Fin cfg1.W) :=
  Entry.mk launch1 (fun c w => (rfl : (rdat1 V c).A w = V c (Proc.devRef .tc (Pipeline.arrRef spec1 w)))) (fun _ _ => rfl) (fun _ _ => rfl) (fun _ _ => rfl) (phi1 V)
    (noTable1) (fun c => body1 V c) only1

/-! ## Region 2 -/

abbrev in2_0 (c : Dev nD) (t : Fin cfg2.N) : Vec F S2048x1024 .f32 :=
  ((cfg2.win 0).blk t).view.read (Elt F) (V c (Proc.devRef .tc (Pipeline.arrRef spec2 0)))
abbrev in2_1 (c : Dev nD) (t : Fin cfg2.N) : Vec F S768x1024 .f32 :=
  ((cfg2.win 1).blk t).view.read (Elt F) (V c (Proc.devRef .tc (Pipeline.arrRef spec2 1)))
abbrev in2_2 (c : Dev nD) (t : Fin cfg2.N) : Vec F S1024x1024 .f32 :=
  ((cfg2.win 2).blk t).view.read (Elt F) (V c (Proc.devRef .tc (Pipeline.arrRef spec2 2)))
abbrev in2_3 (c : Dev nD) (t : Fin cfg2.N) : Vec F S1x1024 .f32 :=
  ((cfg2.win 3).blk t).view.read (Elt F) (V c (Proc.devRef .tc (Pipeline.arrRef spec2 3)))
abbrev in2_4 (c : Dev nD) (t : Fin cfg2.N) : Vec F S1024x1024 .f32 :=
  ((cfg2.win 4).blk t).view.read (Elt F) (V c (Proc.devRef .tc (Pipeline.arrRef spec2 4)))
abbrev in2_5 (c : Dev nD) (t : Fin cfg2.N) : Vec F S1x1024 .f32 :=
  ((cfg2.win 5).blk t).view.read (Elt F) (V c (Proc.devRef .tc (Pipeline.arrRef spec2 5)))
abbrev in2_6 (c : Dev nD) (t : Fin cfg2.N) : Vec F S1024x1024 .f32 :=
  ((cfg2.win 6).blk t).view.read (Elt F) (V c (Proc.devRef .tc (Pipeline.arrRef spec2 6)))
abbrev in2_7 (c : Dev nD) (t : Fin cfg2.N) : Vec F S1x1024 .f32 :=
  ((cfg2.win 7).blk t).view.read (Elt F) (V c (Proc.devRef .tc (Pipeline.arrRef spec2 7)))
abbrev in2_8 (c : Dev nD) (t : Fin cfg2.N) : Vec F S1024x1024 .f32 :=
  ((cfg2.win 8).blk t).view.read (Elt F) (V c (Proc.devRef .tc (Pipeline.arrRef spec2 8)))
abbrev in2_9 (c : Dev nD) (t : Fin cfg2.N) : Vec F S1x1024 .f32 :=
  ((cfg2.win 9).blk t).view.read (Elt F) (V c (Proc.devRef .tc (Pipeline.arrRef spec2 9)))
abbrev in2_10 (c : Dev nD) (t : Fin cfg2.N) : Vec F S1x1024 .f32 :=
  ((cfg2.win 10).blk t).view.read (Elt F) (V c (Proc.devRef .tc (Pipeline.arrRef spec2 10)))
abbrev in2_11 (c : Dev nD) (t : Fin cfg2.N) : Vec F S1x1024 .f32 :=
  ((cfg2.win 11).blk t).view.read (Elt F) (V c (Proc.devRef .tc (Pipeline.arrRef spec2 11)))

/-- What the region leaves in its output buffer at a point. -/
def left2 (c : Dev nD) (t : Fin cfg2.N) (X : Vec F S2048x1024 .f32) : Prop :=
  X = fuseOut (in2_0 V c t) (in2_1 V c t) (in2_2 V c t) (in2_3 V c t) (in2_4 V c t) (in2_5 V c t) (in2_6 V c t) (in2_7 V c t) (in2_8 V c t) (in2_9 V c t) (in2_10 V c t) (in2_11 V c t)

/-- Region 2's data: the inputs' buffers are left as found, the output's as `left2` says. -/
def rdat2 (c : Dev nD) : Pipeline.RDat τ (Elt F) Unit ℕ UU ℕ cfg2 c where
  A w := V c (Proc.devRef .tc (Pipeline.arrRef spec2 w))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun _ X => left2 V c t X
  Φ _ := Pipeline.scopedRest (Ix := Unit) (Name := ℕ) (U := UU) (Lvl := ℕ) (Val := Elt F) spec2 c
  q _ := fullShare
  owed _ := 0

/-- The three pipelines' data while region 2 runs. -/
def rds2 : Rds F
  | ⟨0, _⟩ => fun c => idle c
  | ⟨1, _⟩ => fun c => idle c
  | ⟨2, _⟩ => fun c => rdat2 V c

theorem finds2_0 (c : Dev nD) (t : Fin cfg2.N) (Y) (h : (rdat2 V c).Finds 0 t Y) : Y = in2_0 V c t := by
  obtain ⟨d, hd⟩ := (rdat2 V c).finds_in_eq_fetched 0 rfl (fun _ _ _ => rfl) (fun _ _ _ h => h) t Y h
  exact hd
theorem finds2_1 (c : Dev nD) (t : Fin cfg2.N) (Y) (h : (rdat2 V c).Finds 1 t Y) : Y = in2_1 V c t := by
  obtain ⟨d, hd⟩ := (rdat2 V c).finds_in_eq_fetched 1 rfl (fun _ _ _ => rfl) (fun _ _ _ h => h) t Y h
  exact hd
theorem finds2_2 (c : Dev nD) (t : Fin cfg2.N) (Y) (h : (rdat2 V c).Finds 2 t Y) : Y = in2_2 V c t := by
  obtain ⟨d, hd⟩ := (rdat2 V c).finds_in_eq_fetched 2 rfl (fun _ _ _ => rfl) (fun _ _ _ h => h) t Y h
  exact hd
theorem finds2_3 (c : Dev nD) (t : Fin cfg2.N) (Y) (h : (rdat2 V c).Finds 3 t Y) : Y = in2_3 V c t := by
  obtain ⟨d, hd⟩ := (rdat2 V c).finds_in_eq_fetched 3 rfl (fun _ _ _ => rfl) (fun _ _ _ h => h) t Y h
  exact hd
theorem finds2_4 (c : Dev nD) (t : Fin cfg2.N) (Y) (h : (rdat2 V c).Finds 4 t Y) : Y = in2_4 V c t := by
  obtain ⟨d, hd⟩ := (rdat2 V c).finds_in_eq_fetched 4 rfl (fun _ _ _ => rfl) (fun _ _ _ h => h) t Y h
  exact hd
theorem finds2_5 (c : Dev nD) (t : Fin cfg2.N) (Y) (h : (rdat2 V c).Finds 5 t Y) : Y = in2_5 V c t := by
  obtain ⟨d, hd⟩ := (rdat2 V c).finds_in_eq_fetched 5 rfl (fun _ _ _ => rfl) (fun _ _ _ h => h) t Y h
  exact hd
theorem finds2_6 (c : Dev nD) (t : Fin cfg2.N) (Y) (h : (rdat2 V c).Finds 6 t Y) : Y = in2_6 V c t := by
  obtain ⟨d, hd⟩ := (rdat2 V c).finds_in_eq_fetched 6 rfl (fun _ _ _ => rfl) (fun _ _ _ h => h) t Y h
  exact hd
theorem finds2_7 (c : Dev nD) (t : Fin cfg2.N) (Y) (h : (rdat2 V c).Finds 7 t Y) : Y = in2_7 V c t := by
  obtain ⟨d, hd⟩ := (rdat2 V c).finds_in_eq_fetched 7 rfl (fun _ _ _ => rfl) (fun _ _ _ h => h) t Y h
  exact hd
theorem finds2_8 (c : Dev nD) (t : Fin cfg2.N) (Y) (h : (rdat2 V c).Finds 8 t Y) : Y = in2_8 V c t := by
  obtain ⟨d, hd⟩ := (rdat2 V c).finds_in_eq_fetched 8 rfl (fun _ _ _ => rfl) (fun _ _ _ h => h) t Y h
  exact hd
theorem finds2_9 (c : Dev nD) (t : Fin cfg2.N) (Y) (h : (rdat2 V c).Finds 9 t Y) : Y = in2_9 V c t := by
  obtain ⟨d, hd⟩ := (rdat2 V c).finds_in_eq_fetched 9 rfl (fun _ _ _ => rfl) (fun _ _ _ h => h) t Y h
  exact hd
theorem finds2_10 (c : Dev nD) (t : Fin cfg2.N) (Y) (h : (rdat2 V c).Finds 10 t Y) : Y = in2_10 V c t := by
  obtain ⟨d, hd⟩ := (rdat2 V c).finds_in_eq_fetched 10 rfl (fun _ _ _ => rfl) (fun _ _ _ h => h) t Y h
  exact hd
theorem finds2_11 (c : Dev nD) (t : Fin cfg2.N) (Y) (h : (rdat2 V c).Finds 11 t Y) : Y = in2_11 V c t := by
  obtain ⟨d, hd⟩ := (rdat2 V c).finds_in_eq_fetched 11 rfl (fun _ _ _ => rfl) (fun _ _ _ h => h) t Y h
  exact hd

theorem body2 (c : Dev nD) : (rdat2 V c).BodyObligation (defs₀ (F := F)) 𝒱₀ () Set.univ := fun t Y hY => by
  rw [bigSep_W2, bigSep_W2, defs₀_row2]
  rw [show (rdat2 V c).Φ t.succ = (rdat2 V c).Φ t.castSucc from rfl,
    show (rdat2 V c).owesAt () t.succ = (rdat2 V c).owesAt () t.castSucc from rfl]
  have e0 := finds2_0 V c t _ (hY 0)
  have e1 := finds2_1 V c t _ (hY 1)
  have e2 := finds2_2 V c t _ (hY 2)
  have e3 := finds2_3 V c t _ (hY 3)
  have e4 := finds2_4 V c t _ (hY 4)
  have e5 := finds2_5 V c t _ (hY 5)
  have e6 := finds2_6 V c t _ (hY 6)
  have e7 := finds2_7 V c t _ (hY 7)
  have e8 := finds2_8 V c t _ (hY 8)
  have e9 := finds2_9 V c t _ (hY 9)
  have e10 := finds2_10 V c t _ (hY 10)
  have e11 := finds2_11 V c t _ (hY 11)
  iintro ⟨HΦ, Howes, H0, H1, H2, H3, H4, H5, H6, H7, H8, H9, H10, H11, H12⟩
  iapply (fuseRun c _ _ (Y 0) _ _ (Y 1) _ _ (Y 2) _ _ (Y 3) _ _ (Y 4) _ _ (Y 5) _ _ (Y 6) _ _ (Y 7) _ _ (Y 8) _ _ (Y 9) _ _ (Y 10) _ _ (Y 11) _ _ (Y 12) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact rfl
  isplitl [H8]; · iexists _; isplitr; swap; (· iexact H8); ipureintro; exact rfl
  isplitl [H9]; · iexists _; isplitr; swap; (· iexact H9); ipureintro; exact rfl
  isplitl [H10]; · iexists _; isplitr; swap; (· iexact H10); ipureintro; exact rfl
  isplitl [H11]; · iexists _; isplitr; swap; (· iexact H11); ipureintro; exact rfl
  iexists _; isplitr; swap; (· iexact H12)
  ipureintro
  rw [e0, e1, e2, e3, e4, e5, e6, e7, e8, e9, e10, e11]
  exact rfl

theorem only2 : ∀ w : Fin cfg2.W, w ≠ 12 → (cfg2.win w).isOut = false := by decide

theorem noTable2 (c : Dev nD) : (BI.emp : sProp 𝕄) ⊢ Pipeline.prefHeld (pcfgs (F := F) 2).pre c (fun _ => fullShare) (adm (F := F) 2).1 := by
  unfold Pipeline.prefHeld; rw [show (Finset.univ : Finset (Fin 0)) = ∅ from rfl, BI.bigSep_empty]

theorem phi2 (c : Dev nD) (t : Fin (cfg2.N + 1)) : (rdat2 V c).Φ t = (Pipeline.scopedRest spec2 c : sProp 𝕄) := rfl

theorem entry2 : Entry 2 (rds2 V) V (12 : Fin cfg2.W) :=
  Entry.mk launch2 (fun c w => (rfl : (rdat2 V c).A w = V c (Proc.devRef .tc (Pipeline.arrRef spec2 w)))) (fun _ _ => rfl) (fun _ _ => rfl) (fun _ _ => rfl) (phi2 V)
    (noTable2) (fun c => body2 V c) only2

end Cert.KernelIdeal.Own

end
-- ==== Proof.KernelIdeal.Run.lean ====
/-
  @main run from end to end: the host stretches and the three regions in order, each region leaving its output array at some
  contents its write-backs may produce; and the launch of the whole program.
-/
module

public import proofs.«01_k».proof.Proof.KernelIdeal.Regs

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

/-- The regions run in the second copy of the rounds algebra. -/
abbrev EP2 : Emb (URounds (GSem nD τ sig) Unit) 𝕄 := embR
/-- The launch theorem's own copy, used by no region. -/
abbrev EP1 : Emb (URounds (GSem nD τ sig) Unit) 𝕄 := embL

/-- One pipeline's cells and tokens. -/
abbrev ghost (p : Fin 3) (c : Dev nD) : sProp 𝕄 :=
  iprop(Pipeline.cellsGhost (Pipeline.pin (pcfgs (F := F)) adm) EP2 p c ∗ Pipeline.toksInit (Pipeline.pin (pcfgs (F := F)) adm) EP2 p c)

/-- @main's pieces. -/
abbrev PP (F : FTy → Type) [FloatOps F] (β : Type) : Type 1 :=
  Prog (TpuEff nD τ sig (Elt F) (Pipeline.Sig Λ₀ (Fin 3) fun p => (pcfgs (F := F) p).Adm) .tc) β

/-- A piece of @main runs on core `c` to `K`. -/
abbrev runs (c : Dev nD) {β : Type} (P : PP F β) (K : β → sProp 𝕄) : sProp 𝕄 :=
  wp frame (wpE (Pipeline.defs (pcfgs (F := F)) defs₀) (Variants.lift 𝒱₀) (c.tc : Thread nD τ) none) Set.univ P K

set_option backward.isDefEq.respectTransparency.types false in
/-- A host stretch, then the rest. -/
theorem hostStep (ops : List (HloOp τ sig (Elt F))) (hS : ops.Forall fun op => op.bufs ⊆ StableHlo.tcRefs τ sig)
    (hf : ops.Forall fun op => op.fresh = ∅) (c : Dev nD) (V : Valuation τ sig (Elt F)) {β : Type} (k : PUnit → PP F β) (K : β → sProp 𝕄) :
    iprop(boundary (c.tc : Thread nD τ) ∗ heldAt c V
        ∗ (iprop(boundary (c.tc : Thread nD τ) ∗ heldAt c (StableHlo.after ops V)) -∗ runs c (k ⟨⟩) K))
      ⊢ runs c (StableHlo.seq ops >>= k) K := by
  have hseq := StableHlo.wp_seq (defs := Pipeline.defs (pcfgs (F := F)) defs₀) (Variants.lift 𝒱₀) none Set.univ c (Pipeline.ucRefs τ sig) k (K := K) ops
    (fun op h => Pipeline.sub_ucRefs op ((List.forall_iff_forall_mem.mp hS) op h)) (fun op h => (List.forall_iff_forall_mem.mp hf) op h) V
  iintro ⟨Hbd, Hh, Hk⟩
  iapply hseq $$ [Hbd Hh]
  · isplitl [Hbd] <;> iassumption
  iintro H
  iapply Hk
  iexact H

set_option backward.isDefEq.respectTransparency.types false in
/-- A region, then the rest, whatever its output array ends holding. -/
theorem regionStep {p : Fin 3} {rds : Rds F} {V : Valuation τ sig (Elt F)}
    {wo : Fin (Pipeline.pin (pcfgs (F := F)) adm p).W} (h : Entry p rds (fun _ => V) wo) (R : sProp 𝕄) (c : Dev nD)
    {β : Type} (k : PUnit → PP F β) (K : β → sProp 𝕄) :
    iprop(boundary (c.tc : Thread nD τ) ∗ heldAt c V ∗ R ∗ owesNone c ∗ ghost p c ∗ levAts L lv
        ∗ (∀ G, ⌜(rds p c).ArrAt wo (Pipeline.pin (pcfgs (F := F)) adm p).N G⌝
            -∗ iprop(boundary (c.tc : Thread nD τ) ∗ heldAt c (setArr p wo c V G) ∗ R ∗ owesNone c) -∗ runs c (k ⟨⟩) K))
      ⊢ runs c (.op (.customCall (Pipeline.entry p) ()) k) K := by
  have hwp := Pipeline.RDat.RegionSeg.wp (pcfgs (F := F)) adm rds () cellOf_inj EP2 defs₀ 𝒱₀ L lv (regionOf h (fun _ => R)) c none
    (fun _ h => nomatch h) k K
  iintro ⟨Hbd, Hh, HR, HO, ⟨Hg, Ht⟩, Hla, Hk⟩
  iapply hwp
  isplitl [Hk]
  · iintro ⟨Hbd, Hpost⟩
    unfold regionOf
    icases Hpost with ⟨%G, %hG, Hh, HR, HO⟩
    ispecialize Hk $$ %G %hG
    iapply Hk
    isplitl [Hbd]; · iexact Hbd
    isplitl [Hh]; · iexact Hh
    isplitl [HR] <;> iassumption
  isplitl [Hbd]; · iexact Hbd
  isplitl [Hh HR HO]
  · unfold regionOf
    isplitl [Hh]; · iexact Hh
    isplitl [HR] <;> iassumption
  isplitl [Hla]; · iexact Hla
  isplitl [Hg] <;> iassumption

/-! ## @main -/

variable (m : (ℓ : Loc nD τ sig) → Buf (Elt F) ℓ)

/-- The regions leave these in their output arrays. -/
def outsOf (V : Valuation τ sig (Elt F)) (c : Dev nD) (G0 : Buf (Elt F) ((c : Thread nD τ).loc main_v6)) (G1 : Buf (Elt F) ((c : Thread nD τ).loc main_v8))
    (G2 : Buf (Elt F) ((c : Thread nD τ).loc main_v24)) : Outs (F := F) := fun _ r _ =>
  Function.update (Function.update (Function.update V (Proc.devRef .tc main_v6) G0) (Proc.devRef .tc main_v8) G1) (Proc.devRef .tc main_v24) G2 (Proc.devRef .tc r)

theorem outsOf_v24 (V : Valuation τ sig (Elt F)) (c : Dev nD) (G0) (G1) (G2) (j : ℕ) (c' : Dev nD) :
    outsOf V c G0 G1 G2 j main_v24 c' = G2 := Function.update_self _ _ _
theorem outsOf_v8 (V : Valuation τ sig (Elt F)) (c : Dev nD) (G0) (G1) (G2) (j : ℕ) (c' : Dev nD) :
    outsOf V c G0 G1 G2 j main_v8 c' = G1 :=
  (Function.update_of_ne (StableHlo.devRef_ne_of_ne (by decide)) _ _).trans (Function.update_self _ _ _)
theorem outsOf_v6 (V : Valuation τ sig (Elt F)) (c : Dev nD) (G0) (G1) (G2) (j : ℕ) (c' : Dev nD) :
    outsOf V c G0 G1 G2 j main_v6 c' = G0 :=
  (Function.update_of_ne (StableHlo.devRef_ne_of_ne (by decide)) _ _).trans
    ((Function.update_of_ne (StableHlo.devRef_ne_of_ne (by decide)) _ _).trans (Function.update_self _ _ _))

/-- The three output arrays hold contents the regions' write-backs may produce, each from the buffers as its region finds them. -/
def Reached (c : Dev nD) (outs : Outs (F := F)) : Prop :=
  (rdat0 (fun _ => V1 m c) c).ArrAt 9 cfg0.N (outs 2 main_v6 c)
    ∧ (rdat1 (fun _ => V3 m outs c) c).ArrAt 2 cfg1.N (outs 4 main_v8 c)
    ∧ (rdat2 (fun _ => V5 m outs c) c).ArrAt 12 cfg2.N (outs 6 main_v24 c)

/-- The valuations at each output in turn. -/
abbrev W2 (c : Dev nD) (G0 : Buf (Elt F) ((c : Thread nD τ).loc main_v6)) : Valuation τ sig (Elt F) :=
  Function.update (V1 m c) (Proc.devRef .tc main_v6) G0
abbrev W3 (c : Dev nD) (G0 : Buf (Elt F) ((c : Thread nD τ).loc main_v6)) : Valuation τ sig (Elt F) := StableHlo.after hostOps1 (W2 m c G0)
abbrev W4 (c : Dev nD) (G0 : Buf (Elt F) ((c : Thread nD τ).loc main_v6)) (G1 : Buf (Elt F) ((c : Thread nD τ).loc main_v8)) : Valuation τ sig (Elt F) :=
  Function.update (W3 m c G0) (Proc.devRef .tc main_v8) G1
abbrev W5 (c : Dev nD) (G0 : Buf (Elt F) ((c : Thread nD τ).loc main_v6)) (G1 : Buf (Elt F) ((c : Thread nD τ).loc main_v8)) : Valuation τ sig (Elt F) :=
  StableHlo.after hostOps2 (W4 m c G0 G1)
abbrev W6 (c : Dev nD) (G0 : Buf (Elt F) ((c : Thread nD τ).loc main_v6)) (G1 : Buf (Elt F) ((c : Thread nD τ).loc main_v8))
    (G2 : Buf (Elt F) ((c : Thread nD τ).loc main_v24)) : Valuation τ sig (Elt F) :=
  Function.update (W5 m c G0 G1) (Proc.devRef .tc main_v24) G2
abbrev W7 (c : Dev nD) (G0 : Buf (Elt F) ((c : Thread nD τ).loc main_v6)) (G1 : Buf (Elt F) ((c : Thread nD τ).loc main_v8))
    (G2 : Buf (Elt F) ((c : Thread nD τ).loc main_v24)) : Valuation τ sig (Elt F) := StableHlo.after hostOps3 (W6 m c G0 G1 G2)

theorem V2_eq (c : Dev nD) (outs : Outs (F := F)) (G0) (h : outs 2 main_v6 c = G0) : V2 m outs c = W2 m c G0 := by
  subst h; rfl
theorem V3_eq (c : Dev nD) (outs : Outs (F := F)) (G0) (h : outs 2 main_v6 c = G0) : V3 m outs c = W3 m c G0 :=
  congrArg (StableHlo.after hostOps1) (V2_eq m c outs G0 h)
theorem V4_eq (c : Dev nD) (outs : Outs (F := F)) (G0) (h : outs 2 main_v6 c = G0) (G1) (h1 : outs 4 main_v8 c = G1) :
    V4 m outs c = W4 m c G0 G1 := by
  subst h1; exact congrArg (fun V => Function.update V (Proc.devRef .tc main_v8) (outs 4 main_v8 c)) (V3_eq m c outs G0 h)
theorem V5_eq (c : Dev nD) (outs : Outs (F := F)) (G0) (h : outs 2 main_v6 c = G0) (G1) (h1 : outs 4 main_v8 c = G1) :
    V5 m outs c = W5 m c G0 G1 := congrArg (StableHlo.after hostOps2) (V4_eq m c outs G0 h G1 h1)
theorem V6_eq (c : Dev nD) (outs : Outs (F := F)) (G0) (h : outs 2 main_v6 c = G0) (G1) (h1 : outs 4 main_v8 c = G1)
    (G2) (h2 : outs 6 main_v24 c = G2) : V6 m outs c = W6 m c G0 G1 G2 := by
  subst h2; exact congrArg (fun V => Function.update V (Proc.devRef .tc main_v24) (outs 6 main_v24 c)) (V5_eq m c outs G0 h G1 h1)
theorem V7_eq (c : Dev nD) (outs : Outs (F := F)) (G0) (h : outs 2 main_v6 c = G0) (G1) (h1 : outs 4 main_v8 c = G1)
    (G2) (h2 : outs 6 main_v24 c = G2) : V7 m outs c = W7 m c G0 G1 G2 := congrArg (StableHlo.after hostOps3) (V6_eq m c outs G0 h G1 h1 G2 h2)

/-- The outputs found one after another are a choice of outputs at once. -/
theorem reached_of (c : Dev nD) (G0) (G1) (G2) (h0 : (rdat0 (fun _ => V1 m c) c).ArrAt 9 cfg0.N G0)
    (h1 : (rdat1 (fun _ => W3 m c G0) c).ArrAt 2 cfg1.N G1) (h2 : (rdat2 (fun _ => W5 m c G0 G1) c).ArrAt 12 cfg2.N G2) :
    ∃ outs : Outs (F := F), Reached m c outs ∧ V7 m outs c = W7 m c G0 G1 G2 := by
  have e0 := outsOf_v6 (V1 m c) c G0 G1 G2 2 c
  have e1 := outsOf_v8 (V1 m c) c G0 G1 G2 4 c
  have e2 := outsOf_v24 (V1 m c) c G0 G1 G2 6 c
  refine ⟨outsOf (V1 m c) c G0 G1 G2, ⟨?_, ?_, ?_⟩, V7_eq m c _ _ e0 _ e1 _ e2⟩
  · rw [e0]; exact h0
  · rw [e1, V3_eq m c _ _ e0]; exact h1
  · rw [e2, V5_eq m c _ _ e0 _ e1]; exact h2

/-- @main's fragments in order. -/
abbrev pieces : List (PP F PUnit) := [
  StableHlo.seq hostOps0,
  Prog.lift (.customCall (Pipeline.entry 0) ()),
  StableHlo.seq hostOps1,
  Prog.lift (.customCall (Pipeline.entry 1) ()),
  StableHlo.seq hostOps2,
  Prog.lift (.customCall (Pipeline.entry 2) ()),
  StableHlo.seq hostOps3 ]

/-- What the launch gives a core, and what @main leaves it. -/
abbrev start (c : Dev nD) : sProp 𝕄 :=
  iprop(heldAt c (V0 m c) ∗ owesNone c ∗ ghost 0 c ∗ ghost 1 c ∗ ghost 2 c)
abbrev finish (c : Dev nD) : sProp 𝕄 :=
  iprop((∃ outs : Outs (F := F), ⌜Reached m c outs⌝ ∗ heldAt c (V7 m outs c)) ∗ owesNone c)

theorem pieces_bind {β : Type} (k : PUnit → PP F β) : (Pipeline.chain (pieces (F := F)) >>= k)
    = StableHlo.seq hostOps0 >>= fun _ => .op (.customCall (Pipeline.entry 0) ()) fun _ =>
      StableHlo.seq hostOps1 >>= fun _ => .op (.customCall (Pipeline.entry 1) ()) fun _ =>
      StableHlo.seq hostOps2 >>= fun _ => .op (.customCall (Pipeline.entry 2) ()) fun _ =>
      StableHlo.seq hostOps3 >>= k := by
  simp only [Pipeline.chain, pieces, Prog.lift, Prog.bind_assoc, Prog.bind_op, Prog.bind_ret, Prog.pure_eq_ret]

theorem mainRuns (c : Dev nD) {β : Type} (k : PUnit → PP F β) (K : β → sProp 𝕄) :
    iprop((iprop(boundary (c.tc : Thread nD τ) ∗ finish m c) -∗ runs c (k ⟨⟩) K)
        ∗ boundary (c.tc : Thread nD τ) ∗ start m c ∗ levAts L lv)
      ⊢ runs c (Pipeline.chain (pieces (F := F)) >>= k) K := by
  rw [pieces_bind]
  iintro ⟨Hk, Hbd, ⟨Hh, HO, Hg0, Hg1, Hg2⟩, #Hla⟩
  iapply (hostStep hostOps0 hostOps0_sub hostOps0_fresh c (V0 m c) _ K)
  isplitl [Hbd]; · iexact Hbd
  isplitl [Hh]; · iexact Hh
  iintro ⟨Hbd, Hh⟩
  iapply (regionStep (entry0 (fun _ => V1 m c)) (BI.emp) c _ K)
  isplitl [Hbd]; · iexact Hbd
  isplitl [Hh]; · iexact Hh
  isplitr; · iempintro
  isplitl [HO]; · iexact HO
  isplitl [Hg0]; · iexact Hg0
  isplitr; · iexact Hla
  iintro %G0 %h0 ⟨Hbd, Hh, -, HO⟩
  iapply (hostStep hostOps1 hostOps1_sub hostOps1_fresh c (W2 m c G0) _ K)
  isplitl [Hbd]; · iexact Hbd
  isplitl [Hh]; · iexact Hh
  iintro ⟨Hbd, Hh⟩
  iapply (regionStep (entry1 (fun _ => W3 m c G0)) (BI.emp) c _ K)
  isplitl [Hbd]; · iexact Hbd
  isplitl [Hh]; · iexact Hh
  isplitr; · iempintro
  isplitl [HO]; · iexact HO
  isplitl [Hg1]; · iexact Hg1
  isplitr; · iexact Hla
  iintro %G1 %h1 ⟨Hbd, Hh, -, HO⟩
  iapply (hostStep hostOps2 hostOps2_sub hostOps2_fresh c (W4 m c G0 G1) _ K)
  isplitl [Hbd]; · iexact Hbd
  isplitl [Hh]; · iexact Hh
  iintro ⟨Hbd, Hh⟩
  iapply (regionStep (entry2 (fun _ => W5 m c G0 G1)) (BI.emp) c _ K)
  isplitl [Hbd]; · iexact Hbd
  isplitl [Hh]; · iexact Hh
  isplitr; · iempintro
  isplitl [HO]; · iexact HO
  isplitl [Hg2]; · iexact Hg2
  isplitr; · iexact Hla
  iintro %G2 %h2 ⟨Hbd, Hh, -, HO⟩
  iapply (hostStep hostOps3 hostOps3_sub hostOps3_fresh c (W6 m c G0 G1 G2) _ K)
  isplitl [Hbd]; · iexact Hbd
  isplitl [Hh]; · iexact Hh
  iintro ⟨Hbd, Hh⟩
  iapply Hk
  isplitl [Hbd]; · iexact Hbd
  isplitl [Hh]
  · obtain ⟨outs, hr, e⟩ := reached_of m c G0 G1 G2 h0 h1 h2
    iexists outs
    isplitr; · ipureintro; exact hr
    rw [e]
    iexact Hh
  iexact HO

/-! ## The launch -/

/-- @main as one segment. -/
def whole : Pipeline.HostSeg (Name := ℕ) (U := UU) (pcfgs (F := F)) defs₀ 𝒱₀ L lv where
  prog := Pipeline.chain (pieces (F := F))
  pre := start m
  post := finish m
  run c _ k K := mainRuns m c k K

/-- The launch element: both copies of the rounds algebra at the staging cells and the pipelines' transfers. -/
def launchElt : UU := (initOf (Pipeline.cells cfgs cellOf_inj) (Pipeline.launchToks cfgs cellOf_inj), initOf (Pipeline.cells cfgs cellOf_inj) (Pipeline.launchToks cfgs cellOf_inj))

/-- What the second copy gives each core. -/
abbrev dealt (c : Dev nD) : sProp 𝕄 := iprop(ghost 0 c ∗ ghost 1 c ∗ ghost 2 c)

theorem three (Φ : Fin 3 → sProp 𝕄) : bigSep Finset.univ Φ = iprop(Φ (0 : Fin 3) ∗ Φ (1 : Fin 3) ∗ Φ (2 : Fin 3)) := bigSep_W1 Φ

theorem regroup (A0 A1 A2 B0 B1 B2 : sProp 𝕄) :
    iprop((A0 ∗ A1 ∗ A2) ∗ B0 ∗ B1 ∗ B2) ⊢ iprop((A0 ∗ B0) ∗ (A1 ∗ B1) ∗ A2 ∗ B2) := by
  iintro ⟨⟨A0, A1, A2⟩, B0, B1, B2⟩
  isplitl [A0 B0]; · isplitl [A0] <;> iassumption
  isplitl [A1 B1]; · isplitl [A1] <;> iassumption
  isplitl [A2] <;> iassumption

set_option backward.isDefEq.respectTransparency.types false in
theorem deal : (BI.own (EP2 (F := F) (initOf (Pipeline.cells cfgs cellOf_inj) (Pipeline.launchToks cfgs cellOf_inj))) : sProp 𝕄)
    ⊢ |={Set.univ}=> bigSep Finset.univ (dealt (F := F)) := by
  have hf := Pipeline.fund_ghost (nD := nD) (τ := τ) (Pipeline.pin (pcfgs (F := F)) adm) (EP2 (F := F)) cellOf_inj
  have hj : iprop((bigSep Finset.univ fun c : Dev nD => bigSep Finset.univ fun p => Pipeline.cellsGhost (Pipeline.pin (pcfgs (F := F)) adm) (EP2 (F := F)) p c)
      ∗ (bigSep Finset.univ fun c : Dev nD => bigSep Finset.univ fun p => (Pipeline.toksInit (Pipeline.pin (pcfgs (F := F)) adm) (EP2 (F := F)) p c : sProp 𝕄)))
      ⊢ bigSep Finset.univ (dealt (F := F)) := by
    rw [← bigSep_sep']
    refine bigSep_mono fun c _ => ?_
    rw [three, three]
    exact regroup _ _ _ _ _ _
  iintro Hu
  ihave H := hf $$ Hu
  imod H with H
  imodintro
  iapply hj
  iexact H

set_option backward.isDefEq.respectTransparency.types false in
/-- Every weakly fair execution of @main terminates; at the end the unscoped buffers stand at the last valuation over
    outputs the regions may leave, and every semaphore counter reads zero. -/
theorem run_main (ρ : Dev nD → PrngReg) :
    θ_run (defs (F := F)) (onTc (τ := τ) (main (F := F))) ⟨m, fun _ => 0, ρ⟩ (fun r =>
      (∀ c : Dev nD, ∃ outs : Outs (F := F), Reached m c outs
        ∧ ∀ b ∈ Pipeline.ucRefs τ sig, r.2.mem (c, b) = V7 m outs c b) ∧ r.2.sem = fun _ => 0) := by
  refine Pipeline.RDat.θ_run_regions_kit_dev_sems (pcfgs (F := F)) adm (fun _ c => idle c) () cellOf_inj (EP1 (F := F)) defs₀ 𝒱₀ L lv m ρ main
    (fun _ => [.host (whole m)]) (fun c Q => ?_) (fun c => ?_) (fun _ => 0) (fun _ _ => rfl)
    (dealt (F := F)) launchElt ?_ (T₀ := start m) (Tₙ := fun c => iprop(∃ outs : Outs (F := F), ⌜Reached m c outs⌝ ∗ heldAt c (V7 m outs c)))
    (hch := fun c => ⟨.rfl, .rfl⟩)
    (hinit := ?_) (QY := fun c s => ∃ outs : Outs (F := F), Reached m c outs ∧ ∀ b ∈ Pipeline.ucRefs τ sig, s.mem (c, b) = V7 m outs c b)
    (hfin := fun c s' => ?_) (hQ := fun _ h hz => ⟨h, funext fun g => hz g (.inr (regions_no_unscoped g.2))⟩)
  · have e : (Pipeline.chain (pieces (F := F)) >>= fun _ => (Prog.ret ⟨⟩ : PP F PUnit)) = main (F := F) c := by
      rw [main_chain c]
      exact bind_pure (Pipeline.chain (pieces (F := F)))
    exact (show runs c (Pipeline.chain (pieces (F := F)) >>= fun _ => (Prog.ret ⟨⟩ : PP F PUnit)) Q ⊢ runs c (main (F := F) c) Q from by rw [e])
  · exact List.nodup_nil
  · unfold launchElt
    iintro Hu
    ihave H := (ownU_pair _ _) $$ Hu
    icases H with ⟨HP, HG⟩
    imod (deal (F := F)) $$ [HG] with HG
    · iexact HG
    imodintro
    isplitl [HP]; · iexact HP
    iexact HG
  · refine Pipeline.initEach L lv fun c => ?_
    rw [show (unscopedBufs c (fun b => m ((c.tc : Thread nD τ).loc b)) : sProp 𝕄) = heldAt c (V0 m c)
      from Pipeline.unscopedBufs_held (Ix := Unit) (Name := ℕ) (U := UU) (Lvl := ℕ) c (V0 m c)]
    iintro ⟨⟨Hh, -, HO, -, -, HG0, HG1, HG2⟩, -⟩
    imodintro
    isplitl [Hh]; · iexact Hh
    isplitl [HO]; · iexists _; iexact HO
    isplitl [HG0]; · iexact HG0
    isplitl [HG1] <;> iassumption
  · iintro ⟨⟨%outs, %hr, Hh⟩, HSI⟩
    unfold heldAt StableHlo.held
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro; exact ⟨outs, hr, h⟩
    iexact HSI

end Cert.KernelIdeal.Own

end
-- ==== Proof.KernelIdeal.Frame.lean ====
/-
  What every run of @main ends with: the argument arrays as launched, and the result array the last valuation.
-/
module

public import proofs.«01_k».proof.Proof.KernelIdeal.Run

@[expose] public section

noncomputable section

namespace Cert.KernelIdeal.Own

open Cert.KernelIdeal Cert.KernelIdeal.Gen
open Idealize.ShloMosaic Idealize.ShloMosaic.TcCoe
open Idealize.SL.Sem

variable {F : FTy → Type} [FloatOps F]

/-- Every argument array holds what `m` holds. -/
abbrev Kept (m s : (ℓ : Loc nD τ sig) → Buf (Elt F) ℓ) (c : Dev nD) : Prop :=
  s ((c.tc : Thread nD τ).loc main_arg0) = m ((c.tc : Thread nD τ).loc main_arg0) ∧ s ((c.tc : Thread nD τ).loc main_arg1) = m ((c.tc : Thread nD τ).loc main_arg1) ∧ s ((c.tc : Thread nD τ).loc main_arg2) = m ((c.tc : Thread nD τ).loc main_arg2) ∧ s ((c.tc : Thread nD τ).loc main_arg3) = m ((c.tc : Thread nD τ).loc main_arg3) ∧ s ((c.tc : Thread nD τ).loc main_arg4) = m ((c.tc : Thread nD τ).loc main_arg4) ∧ s ((c.tc : Thread nD τ).loc main_arg5) = m ((c.tc : Thread nD τ).loc main_arg5) ∧ s ((c.tc : Thread nD τ).loc main_arg6) = m ((c.tc : Thread nD τ).loc main_arg6) ∧ s ((c.tc : Thread nD τ).loc main_arg7) = m ((c.tc : Thread nD τ).loc main_arg7) ∧ s ((c.tc : Thread nD τ).loc main_arg8) = m ((c.tc : Thread nD τ).loc main_arg8) ∧ s ((c.tc : Thread nD τ).loc main_arg9) = m ((c.tc : Thread nD τ).loc main_arg9) ∧ s ((c.tc : Thread nD τ).loc main_arg10) = m ((c.tc : Thread nD τ).loc main_arg10) ∧ s ((c.tc : Thread nD τ).loc main_arg11) = m ((c.tc : Thread nD τ).loc main_arg11) ∧ s ((c.tc : Thread nD τ).loc main_arg12) = m ((c.tc : Thread nD τ).loc main_arg12) ∧ s ((c.tc : Thread nD τ).loc main_arg13) = m ((c.tc : Thread nD τ).loc main_arg13) ∧ s ((c.tc : Thread nD τ).loc main_arg14) = m ((c.tc : Thread nD τ).loc main_arg14) ∧ s ((c.tc : Thread nD τ).loc main_arg15) = m ((c.tc : Thread nD τ).loc main_arg15) ∧ s ((c.tc : Thread nD τ).loc main_arg16) = m ((c.tc : Thread nD τ).loc main_arg16) ∧ s ((c.tc : Thread nD τ).loc main_arg17) = m ((c.tc : Thread nD τ).loc main_arg17) ∧ s ((c.tc : Thread nD τ).loc main_arg18) = m ((c.tc : Thread nD τ).loc main_arg18) ∧ s ((c.tc : Thread nD τ).loc main_arg19) = m ((c.tc : Thread nD τ).loc main_arg19) ∧ s ((c.tc : Thread nD τ).loc main_arg20) = m ((c.tc : Thread nD τ).loc main_arg20) ∧ s ((c.tc : Thread nD τ).loc main_arg21) = m ((c.tc : Thread nD τ).loc main_arg21) ∧ s ((c.tc : Thread nD τ).loc main_arg22) = m ((c.tc : Thread nD τ).loc main_arg22) ∧ s ((c.tc : Thread nD τ).loc main_arg23) = m ((c.tc : Thread nD τ).loc main_arg23)

/-- A memory that agrees with the last valuation on the unscoped buffers keeps the arguments. -/
theorem kept_of (m s : (ℓ : Loc nD τ sig) → Buf (Elt F) ℓ) (c : Dev nD) (outs : Outs (F := F))
    (h : ∀ b ∈ Pipeline.ucRefs τ sig, s (c, b) = V7 m outs c b) : Kept m s c :=
  ⟨(h (Proc.devRef .tc main_arg0) (Finset.mem_filter.mpr ⟨StableHlo.devRef_mem_tcRefs main_arg0, by decide⟩)).trans (V7_main_arg0 m outs c),
    (h (Proc.devRef .tc main_arg1) (Finset.mem_filter.mpr ⟨StableHlo.devRef_mem_tcRefs main_arg1, by decide⟩)).trans (V7_main_arg1 m outs c),
    (h (Proc.devRef .tc main_arg2) (Finset.mem_filter.mpr ⟨StableHlo.devRef_mem_tcRefs main_arg2, by decide⟩)).trans (V7_main_arg2 m outs c),
    (h (Proc.devRef .tc main_arg3) (Finset.mem_filter.mpr ⟨StableHlo.devRef_mem_tcRefs main_arg3, by decide⟩)).trans (V7_main_arg3 m outs c),
    (h (Proc.devRef .tc main_arg4) (Finset.mem_filter.mpr ⟨StableHlo.devRef_mem_tcRefs main_arg4, by decide⟩)).trans (V7_main_arg4 m outs c),
    (h (Proc.devRef .tc main_arg5) (Finset.mem_filter.mpr ⟨StableHlo.devRef_mem_tcRefs main_arg5, by decide⟩)).trans (V7_main_arg5 m outs c),
    (h (Proc.devRef .tc main_arg6) (Finset.mem_filter.mpr ⟨StableHlo.devRef_mem_tcRefs main_arg6, by decide⟩)).trans (V7_main_arg6 m outs c),
    (h (Proc.devRef .tc main_arg7) (Finset.mem_filter.mpr ⟨StableHlo.devRef_mem_tcRefs main_arg7, by decide⟩)).trans (V7_main_arg7 m outs c),
    (h (Proc.devRef .tc main_arg8) (Finset.mem_filter.mpr ⟨StableHlo.devRef_mem_tcRefs main_arg8, by decide⟩)).trans (V7_main_arg8 m outs c),
    (h (Proc.devRef .tc main_arg9) (Finset.mem_filter.mpr ⟨StableHlo.devRef_mem_tcRefs main_arg9, by decide⟩)).trans (V7_main_arg9 m outs c),
    (h (Proc.devRef .tc main_arg10) (Finset.mem_filter.mpr ⟨StableHlo.devRef_mem_tcRefs main_arg10, by decide⟩)).trans (V7_main_arg10 m outs c),
    (h (Proc.devRef .tc main_arg11) (Finset.mem_filter.mpr ⟨StableHlo.devRef_mem_tcRefs main_arg11, by decide⟩)).trans (V7_main_arg11 m outs c),
    (h (Proc.devRef .tc main_arg12) (Finset.mem_filter.mpr ⟨StableHlo.devRef_mem_tcRefs main_arg12, by decide⟩)).trans (V7_main_arg12 m outs c),
    (h (Proc.devRef .tc main_arg13) (Finset.mem_filter.mpr ⟨StableHlo.devRef_mem_tcRefs main_arg13, by decide⟩)).trans (V7_main_arg13 m outs c),
    (h (Proc.devRef .tc main_arg14) (Finset.mem_filter.mpr ⟨StableHlo.devRef_mem_tcRefs main_arg14, by decide⟩)).trans (V7_main_arg14 m outs c),
    (h (Proc.devRef .tc main_arg15) (Finset.mem_filter.mpr ⟨StableHlo.devRef_mem_tcRefs main_arg15, by decide⟩)).trans (V7_main_arg15 m outs c),
    (h (Proc.devRef .tc main_arg16) (Finset.mem_filter.mpr ⟨StableHlo.devRef_mem_tcRefs main_arg16, by decide⟩)).trans (V7_main_arg16 m outs c),
    (h (Proc.devRef .tc main_arg17) (Finset.mem_filter.mpr ⟨StableHlo.devRef_mem_tcRefs main_arg17, by decide⟩)).trans (V7_main_arg17 m outs c),
    (h (Proc.devRef .tc main_arg18) (Finset.mem_filter.mpr ⟨StableHlo.devRef_mem_tcRefs main_arg18, by decide⟩)).trans (V7_main_arg18 m outs c),
    (h (Proc.devRef .tc main_arg19) (Finset.mem_filter.mpr ⟨StableHlo.devRef_mem_tcRefs main_arg19, by decide⟩)).trans (V7_main_arg19 m outs c),
    (h (Proc.devRef .tc main_arg20) (Finset.mem_filter.mpr ⟨StableHlo.devRef_mem_tcRefs main_arg20, by decide⟩)).trans (V7_main_arg20 m outs c),
    (h (Proc.devRef .tc main_arg21) (Finset.mem_filter.mpr ⟨StableHlo.devRef_mem_tcRefs main_arg21, by decide⟩)).trans (V7_main_arg21 m outs c),
    (h (Proc.devRef .tc main_arg22) (Finset.mem_filter.mpr ⟨StableHlo.devRef_mem_tcRefs main_arg22, by decide⟩)).trans (V7_main_arg22 m outs c),
    (h (Proc.devRef .tc main_arg23) (Finset.mem_filter.mpr ⟨StableHlo.devRef_mem_tcRefs main_arg23, by decide⟩)).trans (V7_main_arg23 m outs c)⟩

variable [∀ e, Nonempty (Elt F e)]

/-- Every run ends with each argument as launched, the result at the last valuation over some reached outputs, and every counter at zero. -/
theorem run_ends (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, (∃ outs : Outs (F := F), Reached m c outs ∧ r.2.mem ((c.tc : Thread nD τ).loc main_v25) = V7 m outs c main_v25) ∧ Kept m r.2.mem c)
        ∧ r.2.sem = fun _ => 0) :=
  (θ_run _ _ _).mono (fun _ h => ⟨fun c => by
    obtain ⟨outs, hr, hm⟩ := h.1 c
    exact ⟨⟨outs, hr, hm (Proc.devRef .tc main_v25) (Finset.mem_filter.mpr ⟨StableHlo.devRef_mem_tcRefs main_v25, by decide⟩)⟩, kept_of m _ c outs hm⟩, h.2⟩) (run_main m ρ)

end Cert.KernelIdeal.Own

end
-- ==== Proof.Model.lean ====
/-
  What both programs compute, as functions of plain indices into the extended reals, and the algebra between the two
  orders of computing the pooled row.
-/
module

public import Idealize.ShloMosaic.Lib.Pointwise
public import Idealize.ShloMosaic.Lib.IdealHost

@[expose] public section

set_option maxRecDepth 16384

noncomputable section

namespace Cert.Model

open Idealize.ShloMosaic

/-- The value a single precision pattern denotes. -/
abbrev bits (b : BitVec 32) : EReal := Ideal.ofBits .f32 b

/-- The activation. -/
def act (z : EReal) : EReal :=
  z * (bits 0x3F000000#32 * (1 + Ideal.tanh (bits 0x3F4C422A#32 * (z + bits 0x3D372713#32 * (z * z * z)))))

/-- A matrix product and a bias row. -/
def affine {n k m : ℕ} (x : Fin n → Fin k → EReal) (w : Fin k → Fin m → EReal) (b : Fin m → EReal) (i : Fin n) (j : Fin m) : EReal :=
  ∑ l, x i l * w l j + b j

/-- The features a query is pooled from. -/
def feat (x : Fin 2048 → Fin 1024 → EReal) (w1 : Fin 1024 → Fin 1024 → EReal) (b1 : Fin 1024 → EReal)
    (w2 : Fin 1024 → Fin 1024 → EReal) (b2 : Fin 1024 → EReal) : Fin 2048 → Fin 1024 → EReal :=
  affine (fun s d => act (affine x w1 b1 s d)) w2 b2

/-- Row products over a divisor. -/
def logit {n m d : ℕ} (c : EReal) (q : Fin n → Fin d → EReal) (k : Fin m → Fin d → EReal) (i : Fin n) (j : Fin m) : EReal :=
  Ideal.div (∑ l, q i l * k j l) c

/-- Exponentials of a row less its maximum. -/
def expo {m : ℕ} (l : Fin m → EReal) (j : Fin m) : EReal :=
  Ideal.exp (l j - Finset.univ.fold max (bits 0xFF800000#32) l)

/-- The softmax of a row. -/
def soft {m : ℕ} (l : Fin m → EReal) (j : Fin m) : EReal := Ideal.div (expo l j) (∑ k, expo l k)

/-- The mean of a row. -/
def mean (v : Fin 1024 → EReal) : EReal := Ideal.div (∑ k, v k) (bits 0x44800000#32)

/-- A row less its mean, over its deviation. -/
def norm (v : Fin 1024 → EReal) (j : Fin 1024) : EReal :=
  Ideal.div (v j - mean v) (Ideal.sqrt (mean (fun k => (v k - mean v) * (v k - mean v)) + bits 0x3727C5AC#32))

/-- Attention of the features over themselves. -/
def att (q : Fin 2048 → Fin 1024 → EReal) (s : Fin 2048) : Fin 2048 → EReal :=
  soft (logit (Ideal.sqrt (bits 0x44800000#32)) q q s)

/-- The mean of the attended rows: rows attended first. -/
def poolRows (q : Fin 2048 → Fin 1024 → EReal) (d : Fin 1024) : EReal :=
  Ideal.div (∑ s, ∑ t, att q s t * q t d) (bits 0x45000000#32)

/-- The mean of the attended rows: weights summed first. -/
def poolCols (q : Fin 2048 → Fin 1024 → EReal) (d : Fin 1024) : EReal :=
  Ideal.div (∑ t, (∑ s, att q s t) * q t d) (bits 0x45000000#32)

/-- A query, from the pooled row. -/
def query (p : Fin 1024 → EReal) (g b : Fin 1024 → EReal) (pw : Fin 1024 → Fin 1024 → EReal) (pb : Fin 1024 → EReal)
    (d : Fin 1024) : EReal :=
  ∑ k, (norm p k * g k + b k) * pw k d + pb d

/-- Column `e` of head `h`. -/
abbrev col (h : Fin 8) (e : Fin 128) : Fin 1024 := ⟨h * 128 + e, by omega⟩

/-- The head a column lies in. -/
abbrev head (d : Fin 1024) : Fin 8 := ⟨d / 128, by omega⟩

/-- The attended values, head by head. -/
def heads (q : Fin 2048 → Fin 1024 → EReal) (k v : Fin 768 → Fin 1024 → EReal) (s : Fin 2048) (d : Fin 1024) : EReal :=
  ∑ t, soft (logit (Ideal.sqrt (bits 0x43000000#32)) (fun s e => q s (col (head d) e)) (fun t e => k t (col (head d) e)) s) t * v t d

/-- The residual stream before its norm. -/
def resid (x : Fin 2048 → Fin 1024 → EReal) (kv : Fin 768 → Fin 1024 → EReal) (wq : Fin 1024 → Fin 1024 → EReal) (bq : Fin 1024 → EReal)
    (wk : Fin 1024 → Fin 1024 → EReal) (bk : Fin 1024 → EReal) (wv : Fin 1024 → Fin 1024 → EReal) (bv : Fin 1024 → EReal)
    (wo : Fin 1024 → Fin 1024 → EReal) (bo : Fin 1024 → EReal) (s : Fin 2048) (d : Fin 1024) : EReal :=
  x s d + affine (heads (affine x wq bq) (affine kv wk bk) (affine kv wv bv)) wo bo s d

/-! ## Scalars -/

theorem bits_eq (b : BitVec 32) (r : ℝ) (h : Ideal.ieee 8 23 b = (r : EReal)) : bits b = (r : EReal) := h

theorem ninf : bits 0xFF800000#32 = ⊥ := by
  simp [bits, Ideal.ofBits, Ideal.ieee]

theorem b1024 : bits 0x44800000#32 = ((1024 : ℝ) : EReal) := by
  simp [bits, Ideal.ofBits, Ideal.ieee]; norm_cast; try norm_num

theorem b2048 : bits 0x45000000#32 = ((2048 : ℝ) : EReal) := by
  simp [bits, Ideal.ofBits, Ideal.ieee]; norm_cast; try norm_num

theorem b128 : bits 0x43000000#32 = ((128 : ℝ) : EReal) := by
  simp [bits, Ideal.ofBits, Ideal.ieee]; norm_cast; try norm_num

theorem eps_ne : bits 0x3727C5AC#32 ≠ ⊥ := by
  simp only [bits, Ideal.ofBits, Ideal.ieee]
  rw [if_neg (by decide), if_neg (by decide)]
  exact EReal.coe_ne_bot _

/-- An exponential is not negative. -/
theorem exp_nonneg (x : EReal) : 0 ≤ Ideal.exp x := by
  induction x with
  | bot => exact le_refl _
  | top => exact le_top
  | coe r => exact EReal.coe_nonneg.2 (Real.exp_pos r).le

/-- A product by a reciprocal is a quotient. -/
theorem mul_recip (x : EReal) {s : EReal} (h : s ≠ 0) : x * Ideal.div 1 s = Ideal.div x s := by
  simp only [Ideal.div, if_neg h, one_mul]

theorem sqrt_pos {r : ℝ} (h : 0 < r) : Ideal.sqrt (r : EReal) ≠ 0 := by
  show (if r < 0 then (⊥ : EReal) else (Real.sqrt r : EReal)) ≠ 0
  rw [if_neg (not_lt.2 h.le)]
  exact EReal.coe_ne_zero.2 (Real.sqrt_pos.2 h).ne'

theorem s1024 : Ideal.sqrt (bits 0x44800000#32) ≠ 0 := by rw [b1024]; exact sqrt_pos (by norm_num)
theorem s128 : Ideal.sqrt (bits 0x43000000#32) ≠ 0 := by rw [b128]; exact sqrt_pos (by norm_num)

/-! ## Infinite values -/

/-- One of the two infinities. -/
def Inf (x : EReal) : Prop := x = ⊤ ∨ x = ⊥

theorem Inf.add {x : EReal} (h : Inf x) (y : EReal) : Inf (x + y) := by
  rcases h with rfl | rfl
  · by_cases hy : y = ⊥
    · subst hy; exact .inr (EReal.add_bot _)
    · exact .inl (EReal.top_add_of_ne_bot hy)
  · exact .inr (EReal.bot_add _)

theorem Inf.sum {n : ℕ} {f : Fin n → EReal} {i : Fin n} (h : Inf (f i)) : Inf (∑ j, f j) := by
  rw [← Finset.add_sum_erase _ _ (Finset.mem_univ i)]
  exact h.add _

theorem sum_bot {n : ℕ} {f : Fin n → EReal} {i : Fin n} (h : f i = ⊥) : ∑ j, f j = ⊥ := by
  rw [← Finset.add_sum_erase _ _ (Finset.mem_univ i), h, EReal.bot_add]

theorem Inf.bot_mul {x : EReal} (h : x ≠ 0) : Inf (⊥ * x) := by
  rcases lt_or_gt_of_ne h with h | h
  · exact .inl (EReal.bot_mul_of_neg h)
  · exact .inr (EReal.bot_mul_of_pos h)

theorem div_real (x : EReal) {r : ℝ} (h : 0 < r) : Ideal.div x (r : EReal) = x * ((r⁻¹ : ℝ) : EReal) := by
  simp only [Ideal.div, if_neg (EReal.coe_ne_zero.2 h.ne'), EReal.coe_inv]

theorem Inf.div {x : EReal} (h : Inf x) {r : ℝ} (hr : 0 < r) : Inf (Ideal.div x (r : EReal)) := by
  rw [div_real x hr]
  have hp : (0 : EReal) < ((r⁻¹ : ℝ) : EReal) := EReal.coe_pos.2 (inv_pos.2 hr)
  rcases h with rfl | rfl
  · exact .inl (EReal.top_mul_of_pos hp)
  · exact .inr (EReal.bot_mul_of_pos hp)

theorem Inf.sub_left {y : EReal} (h : Inf y) (x : EReal) : Inf (x - y) := by
  rw [sub_eq_add_neg, add_comm]
  refine Inf.add ?_ x
  rcases h with rfl | rfl
  · exact .inr EReal.neg_top
  · exact .inl EReal.neg_bot

theorem Inf.sq {x : EReal} (h : Inf x) : x * x = ⊤ := by
  rcases h with rfl | rfl
  · exact EReal.top_mul_of_pos EReal.zero_lt_top
  · exact EReal.bot_mul_bot

/-- The mean of a row with an infinite entry is infinite. -/
theorem Inf.mean {v : Fin 1024 → EReal} {i : Fin 1024} (h : Inf (v i)) : Inf (mean v) := by
  unfold Model.mean; rw [b1024]
  exact Inf.div (Inf.sum h) (by norm_num)

theorem mean_top {v : Fin 1024 → EReal} (h : ∀ i, v i = ⊤) : mean v = ⊤ := by
  have h0 : Inf (mean v) := Inf.mean (i := 0) (.inl (h 0))
  refine h0.resolve_right fun hb => ?_
  have hp : 0 ≤ mean v := by
    unfold mean; rw [b1024, div_real _ (by norm_num)]
    refine mul_nonneg (Finset.sum_nonneg fun i _ => ?_) (EReal.coe_nonneg.2 (by norm_num))
    rw [h i]; exact le_top
  rw [hb] at hp
  exact absurd hp (by decide)

/-- A row with an infinite entry has norm zero. -/
theorem norm_inf {v : Fin 1024 → EReal} {i : Fin 1024} (h : Inf (v i)) (j : Fin 1024) : norm v j = 0 := by
  have hm : Inf (mean v) := Inf.mean h
  unfold norm
  rw [mean_top fun k => (hm.sub_left (v k)).sq, EReal.top_add_of_ne_bot eps_ne]
  show Ideal.div _ ⊤ = 0
  simp only [Ideal.div, if_neg (EReal.zero_lt_top).ne', EReal.inv_top, mul_zero]

/-! ## The two orders of pooling -/

theorem expo_nonneg {m : ℕ} (l : Fin m → EReal) (j : Fin m) : 0 ≤ expo l j := exp_nonneg _

/-- A row's softmax is nowhere negative, or everywhere the value of `0 / 0`. -/
theorem soft_cases {m : ℕ} (l : Fin m → EReal) : (∀ j, 0 ≤ soft l j) ∨ ∀ j, soft l j = ⊥ := by
  have hs : 0 ≤ ∑ k, expo l k := Finset.sum_nonneg fun k _ => expo_nonneg l k
  by_cases h : ∑ k, expo l k = 0
  · refine .inr fun j => ?_
    have hj : expo l j = 0 := (Finset.sum_eq_zero_iff_of_nonneg fun k _ => expo_nonneg l k).1 h j (Finset.mem_univ j)
    simp only [soft, Ideal.div, if_pos h, hj, lt_irrefl, if_false]
  · refine .inl fun j => ?_
    simp only [soft, Ideal.div, if_neg h]
    exact mul_nonneg (expo_nonneg l j) (EReal.inv_nonneg_of_nonneg hs)

theorem sum_mul_nonneg {n : ℕ} (s : Finset (Fin n)) (f : Fin n → EReal) (h : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (h a) (Finset.sum_nonneg fun i _ => h i), ih]

/-- Both orders of pooling give one row, or each a row with an infinite entry. -/
theorem pool_cases (q : Fin 2048 → Fin 1024 → EReal) :
    poolCols q = poolRows q ∨ ∃ d, Inf (poolCols q d) ∧ Inf (poolRows q d) := by
  by_cases hg : ∀ s t, 0 ≤ att q s t
  · refine .inl (funext fun d => ?_)
    unfold poolCols poolRows
    rw [Finset.sum_comm (f := fun s t => att q s t * q t d)]
    exact congrArg (Ideal.div · _) (Finset.sum_congr rfl fun t _ => sum_mul_nonneg _ _ (fun s => hg s t) _)
  · obtain ⟨s, hs⟩ : ∃ s, ∀ t, att q s t = ⊥ := by
      by_contra hn
      exact hg fun s => (soft_cases _).resolve_right fun h => hn ⟨s, h⟩
    by_cases hz : ∀ t d, q t d = 0
    · refine .inl (funext fun d => ?_)
      simp only [poolCols, poolRows, hz, mul_zero, Finset.sum_const_zero]
    · obtain ⟨t, d, htd⟩ : ∃ t d, q t d ≠ 0 := by
        by_contra hn
        exact hz fun t d => by_contra fun h => hn ⟨t, d, h⟩
      refine .inr ⟨d, ?_, ?_⟩
      · unfold poolCols; rw [b2048]
        refine Inf.div (Inf.sum (i := t) ?_) (by norm_num)
        rw [sum_bot (i := s) (f := fun s => att q s t) (hs t)]
        exact Inf.bot_mul htd
      · unfold poolRows; rw [b2048]
        refine Inf.div (Inf.sum (i := s) (Inf.sum (i := t) ?_)) (by norm_num)
        rw [hs t]
        exact Inf.bot_mul htd

/-- The norm of the pooled row does not depend on the order. -/
theorem norm_pool (q : Fin 2048 → Fin 1024 → EReal) : norm (poolCols q) = norm (poolRows q) := by
  rcases pool_cases q with h | ⟨d, h1, h2⟩
  · rw [h]
  · funext j; rw [norm_inf h1, norm_inf h2]

theorem query_pool (q : Fin 2048 → Fin 1024 → EReal) : query (poolCols q) = query (poolRows q) := by
  unfold query; rw [norm_pool]

end Cert.Model
-- ==== Proof.Order.lean ====
/-
  The positions a top-k selects and the rows a gather reads, at an index.
-/
module

public import proofs.«01_k».proof.Proof.Gen.KernelIdeal
public import proofs.«01_k».proof.Proof.Gen.ReferenceIdeal
public import proofs.«01_k».proof.Proof.Model
public import Idealize.ShloMosaic.Lib.Pointwise

@[expose] public section

set_option maxRecDepth 16384

noncomputable section

namespace Cert.Own

open Idealize.ShloMosaic Idealize.ShloMosaic.TcCoe

/-- The `k`-th place in the order of `f`'s entries, greatest first, equal ones by place. -/
def place (f : Fin 100000 → EReal) (k : Fin 100000) : Fin 100000 :=
  sortedFrom (fun a b => (FloatOps.cmpfTotal (F := Ideal) (φ := .f32) .gt (f a) (f b)) == 1#1) k

/-- The `j`-th of the 256 greatest places, as a word. -/
def pick (f : Fin 100000 → EReal) (j : Fin 256) : BitVec 32 := BitVec.ofNat 32 (place f ⟨j, by omega⟩).val

theorem pickK (x : FVec Ideal Cert.KernelIdeal.S3x100000 .f32) (h : Cert.KernelIdeal.S3x100000.Slices (fun _ => 0) Cert.KernelIdeal.S3x256) (r : Fin 3) (j : Fin 256) :
    (Host.topK Cert.KernelIdeal.S3x256 1 (FloatOps.cmpfTotal .gt) x h).2 (ix2 r j) = pick (fun n => x (ix2 r n)) j := by
  have al : ∀ n : Fin 100000, (ix2 r ⟨j, by omega⟩ : Cert.KernelIdeal.S3x100000.Idx).along 1 n = ix2 r n := fun n => by
    funext a; fin_cases a <;> rfl
  have sl : ∀ v : IVec Cert.KernelIdeal.S3x100000 32, extractStridedSlice Cert.KernelIdeal.S3x256 (fun _ => 0) v h (ix2 r j) = v (ix2 r ⟨j, by omega⟩) := fun v => by
    unfold extractStridedSlice
    refine congrArg v (funext fun a => Fin.ext ?_)
    fin_cases a <;> exact Nat.zero_add _
  dsimp only [Host.topK]
  refine (sl _).trans ?_
  unfold Host.sort2
  rw [dif_pos (by decide)]
  show BitVec.ofNat 32 (((ix2 r ⟨j, by omega⟩ : Cert.KernelIdeal.S3x100000.Idx).along 1 (sortedFrom (n := 100000) (fun k k' => FloatOps.cmpfTotal .gt (x ((ix2 r ⟨j, by omega⟩ : Cert.KernelIdeal.S3x100000.Idx).along 1 k))
    (x ((ix2 r ⟨j, by omega⟩ : Cert.KernelIdeal.S3x100000.Idx).along 1 k')) == 1#1) (⟨j, by omega⟩ : Fin 100000))) 1).val = _
  simp only [al]
  rfl

theorem pickR (x : FVec Ideal Cert.ReferenceIdeal.S3x1x100000 .f32) (h : Cert.ReferenceIdeal.S3x1x100000.Slices (fun _ => 0) Cert.ReferenceIdeal.S3x1x256) (r : Fin 3) (j : Fin 256) :
    (Host.topK Cert.ReferenceIdeal.S3x1x256 2 (FloatOps.cmpfTotal .gt) x h).2 (ix3 r 0 j) = pick (fun n => x (ix3 r 0 n)) j := by
  have al : ∀ n : Fin 100000, (ix3 r 0 ⟨j, by omega⟩ : Cert.ReferenceIdeal.S3x1x100000.Idx).along 2 n = ix3 r 0 n := fun n => by
    funext a; fin_cases a <;> rfl
  have sl : ∀ v : IVec Cert.ReferenceIdeal.S3x1x100000 32, extractStridedSlice Cert.ReferenceIdeal.S3x1x256 (fun _ => 0) v h (ix3 r 0 j) = v (ix3 r 0 ⟨j, by omega⟩) := fun v => by
    unfold extractStridedSlice
    refine congrArg v (funext fun a => Fin.ext ?_)
    fin_cases a <;> exact Nat.zero_add _
  dsimp only [Host.topK]
  refine (sl _).trans ?_
  unfold Host.sort2
  rw [dif_pos (by decide)]
  show BitVec.ofNat 32 (((ix3 r 0 ⟨j, by omega⟩ : Cert.ReferenceIdeal.S3x1x100000.Idx).along 2 (sortedFrom (n := 100000) (fun k k' => FloatOps.cmpfTotal .gt (x ((ix3 r 0 ⟨j, by omega⟩ : Cert.ReferenceIdeal.S3x1x100000.Idx).along 2 k))
    (x ((ix3 r 0 ⟨j, by omega⟩ : Cert.ReferenceIdeal.S3x1x100000.Idx).along 2 k')) == 1#1) (⟨j, by omega⟩ : Fin 100000))) 2).val = _
  simp only [al]
  rfl

theorem gatherK (x : FVec Ideal Cert.KernelIdeal.S100000x1024 .f32) (idx : IVec Cert.KernelIdeal.S768x1 32) (t : Fin 768) (d : Fin 1024) :
    Host.gather Cert.KernelIdeal.gather_S100000x1024_S768x1_S768x1024_1_0_n_n_0_1_11024 x idx (ix2 t d)
      = x (ix2 ⟨min (idx (ix2 t 0)).toInt.toNat 99999, by omega⟩ d) := by
  have k0 : (0 : Fin 2) ∉ Cert.KernelIdeal.gather_S100000x1024_S768x1_S768x1024_1_0_n_n_0_1_11024.sKept := by decide
  have k1 : (1 : Fin 2) ∈ Cert.KernelIdeal.gather_S100000x1024_S768x1_S768x1024_1_0_n_n_0_1_11024.sKept := by decide
  have hs : ∀ c, Cert.KernelIdeal.gather_S100000x1024_S768x1_S768x1024_1_0_n_n_0_1_11024.siIdx (ix2 t d) c = ix2 t 0 := fun c => by
    funext b
    fin_cases b
    · rfl
    · exact Subsingleton.elim (α := Fin 1) _ _
  unfold Host.gather
  refine congrArg x (funext fun a => Fin.ext ?_)
  fin_cases a
  · show Cert.KernelIdeal.gather_S100000x1024_S768x1_S768x1024_1_0_n_n_0_1_11024.start _ idx 0 + Cert.KernelIdeal.gather_S100000x1024_S768x1_S768x1024_1_0_n_n_0_1_11024.batchCoord _ 0 + Cert.KernelIdeal.gather_S100000x1024_S768x1_S768x1024_1_0_n_n_0_1_11024.offCoord _ 0 = min (idx (ix2 t 0)).toInt.toNat 99999
    rw [Cert.KernelIdeal.gather_S100000x1024_S768x1_S768x1024_1_0_n_n_0_1_11024.offCoord_eq_zero _ _ k0, Cert.KernelIdeal.gather_S100000x1024_S768x1_S768x1024_1_0_n_n_0_1_11024.batchCoord_eq_zero _ _ List.not_mem_nil]
    unfold GatherDims.start
    rw [dif_pos (by decide), hs]
    rfl
  · show Cert.KernelIdeal.gather_S100000x1024_S768x1_S768x1024_1_0_n_n_0_1_11024.start _ idx 1 + Cert.KernelIdeal.gather_S100000x1024_S768x1_S768x1024_1_0_n_n_0_1_11024.batchCoord _ 1 + Cert.KernelIdeal.gather_S100000x1024_S768x1_S768x1024_1_0_n_n_0_1_11024.offCoord _ 1 = d.val
    rw [Cert.KernelIdeal.gather_S100000x1024_S768x1_S768x1024_1_0_n_n_0_1_11024.batchCoord_eq_zero _ _ List.not_mem_nil]
    unfold GatherDims.start GatherDims.offCoord
    rw [dif_neg (by decide), dif_pos k1]
    exact Nat.zero_add _

theorem gatherR (x : FVec Ideal Cert.ReferenceIdeal.S100000x1024 .f32) (idx : IVec Cert.ReferenceIdeal.S3x1x256x1 32) (r : Fin 3) (j : Fin 256) (d : Fin 1024) :
    Host.gather Cert.ReferenceIdeal.gather_S100000x1024_S3x1x256x1_S3x1x256x1024_3_0_n_n_0_3_11024 x idx (ix4 r 0 j d)
      = x (ix2 ⟨min (idx (ix4 r 0 j 0)).toInt.toNat 99999, by omega⟩ d) := by
  have k0 : (0 : Fin 2) ∉ Cert.ReferenceIdeal.gather_S100000x1024_S3x1x256x1_S3x1x256x1024_3_0_n_n_0_3_11024.sKept := by decide
  have k1 : (1 : Fin 2) ∈ Cert.ReferenceIdeal.gather_S100000x1024_S3x1x256x1_S3x1x256x1024_3_0_n_n_0_3_11024.sKept := by decide
  have hs : ∀ c, Cert.ReferenceIdeal.gather_S100000x1024_S3x1x256x1_S3x1x256x1024_3_0_n_n_0_3_11024.siIdx (ix4 r 0 j d) c = ix4 r 0 j 0 := fun c => by
    funext b
    fin_cases b
    · rfl
    · exact Subsingleton.elim (α := Fin 1) _ _
    · rfl
    · exact Subsingleton.elim (α := Fin 1) _ _
  unfold Host.gather
  refine congrArg x (funext fun a => Fin.ext ?_)
  fin_cases a
  · show Cert.ReferenceIdeal.gather_S100000x1024_S3x1x256x1_S3x1x256x1024_3_0_n_n_0_3_11024.start _ idx 0 + Cert.ReferenceIdeal.gather_S100000x1024_S3x1x256x1_S3x1x256x1024_3_0_n_n_0_3_11024.batchCoord _ 0 + Cert.ReferenceIdeal.gather_S100000x1024_S3x1x256x1_S3x1x256x1024_3_0_n_n_0_3_11024.offCoord _ 0 = min (idx (ix4 r 0 j 0)).toInt.toNat 99999
    rw [Cert.ReferenceIdeal.gather_S100000x1024_S3x1x256x1_S3x1x256x1024_3_0_n_n_0_3_11024.offCoord_eq_zero _ _ k0, Cert.ReferenceIdeal.gather_S100000x1024_S3x1x256x1_S3x1x256x1024_3_0_n_n_0_3_11024.batchCoord_eq_zero _ _ List.not_mem_nil]
    unfold GatherDims.start
    rw [dif_pos (by decide), hs]
    rfl
  · show Cert.ReferenceIdeal.gather_S100000x1024_S3x1x256x1_S3x1x256x1024_3_0_n_n_0_3_11024.start _ idx 1 + Cert.ReferenceIdeal.gather_S100000x1024_S3x1x256x1_S3x1x256x1024_3_0_n_n_0_3_11024.batchCoord _ 1 + Cert.ReferenceIdeal.gather_S100000x1024_S3x1x256x1_S3x1x256x1024_3_0_n_n_0_3_11024.offCoord _ 1 = d.val
    rw [Cert.ReferenceIdeal.gather_S100000x1024_S3x1x256x1_S3x1x256x1024_3_0_n_n_0_3_11024.batchCoord_eq_zero _ _ List.not_mem_nil]
    unfold GatherDims.start GatherDims.offCoord
    rw [dif_neg (by decide), dif_pos k1]
    exact Nat.zero_add _

/-- The row of the memory a selected position names: a negative one counts from the end, and the row stays in range. -/
def rowOf (w : BitVec 32) : Fin 100000 :=
  ⟨min (Scalar.select (IntOp.cmpi .slt w 0#32) (IntOp.addi w 100000#32) w).toInt.toNat 99999, by omega⟩

end Cert.Own
-- ==== Proof.ReferenceIdeal.Inputs.lean ====
/-
  The reference's arguments as functions of plain indices.
-/
module

public import proofs.«01_k».proof.Proof.Gen.ReferenceIdeal
public import proofs.«01_k».proof.Proof.Model

@[expose] public section

set_option maxRecDepth 16384

noncomputable section

namespace Cert.ReferenceIdeal.Own

open Cert.ReferenceIdeal Cert.ReferenceIdeal.Gen
open Idealize.ShloMosaic Idealize.ShloMosaic.TcCoe

variable (V : Valuation τ sig (Elt Ideal))

abbrev a0 : FVec Ideal S1x2048x1024 .f32 := V (Proc.devRef .tc main_arg0)
abbrev a1 : FVec Ideal S100000x1024 .f32 := V (Proc.devRef .tc main_arg1)
abbrev a2 : FVec Ideal S3x1024x1024 .f32 := V (Proc.devRef .tc main_arg2)
abbrev a3 : FVec Ideal S3x1024 .f32 := V (Proc.devRef .tc main_arg3)
abbrev a4 : FVec Ideal S3x1024x1024 .f32 := V (Proc.devRef .tc main_arg4)
abbrev a5 : FVec Ideal S3x1024 .f32 := V (Proc.devRef .tc main_arg5)
abbrev a6 : FVec Ideal S3x1024 .f32 := V (Proc.devRef .tc main_arg6)
abbrev a7 : FVec Ideal S3x1024 .f32 := V (Proc.devRef .tc main_arg7)
abbrev a8 : FVec Ideal S3x1024x1024 .f32 := V (Proc.devRef .tc main_arg8)
abbrev a9 : FVec Ideal S3x1024 .f32 := V (Proc.devRef .tc main_arg9)
abbrev a14 : FVec Ideal S1024x1024 .f32 := V (Proc.devRef .tc main_arg14)
abbrev a15 : FVec Ideal S1024 .f32 := V (Proc.devRef .tc main_arg15)
abbrev a16 : FVec Ideal S1024x1024 .f32 := V (Proc.devRef .tc main_arg16)
abbrev a17 : FVec Ideal S1024 .f32 := V (Proc.devRef .tc main_arg17)
abbrev a18 : FVec Ideal S1024x1024 .f32 := V (Proc.devRef .tc main_arg18)
abbrev a19 : FVec Ideal S1024 .f32 := V (Proc.devRef .tc main_arg19)
abbrev a20 : FVec Ideal S1024x1024 .f32 := V (Proc.devRef .tc main_arg20)
abbrev a21 : FVec Ideal S1024 .f32 := V (Proc.devRef .tc main_arg21)
abbrev a22 : FVec Ideal S1024 .f32 := V (Proc.devRef .tc main_arg22)
abbrev a23 : FVec Ideal S1024 .f32 := V (Proc.devRef .tc main_arg23)

/-- Retriever `r`'s features. -/
def feats (r : Fin 3) : Fin 2048 → Fin 1024 → EReal :=
  Model.feat (fun s k => a0 V (ix3 0 s k)) (fun k d => a2 V (ix3 r k d)) (fun d => a3 V (ix2 r d)) (fun k d => a4 V (ix3 r k d))
    (fun d => a5 V (ix2 r d))

/-- Retriever `r`'s query. -/
def queryRow (r : Fin 3) : Fin 1024 → EReal :=
  Model.query (Model.poolRows (feats V r)) (fun d => a6 V (ix2 r d)) (fun d => a7 V (ix2 r d)) (fun k d => a8 V (ix3 r k d))
    (fun d => a9 V (ix2 r d))

end Cert.ReferenceIdeal.Own
-- ==== Proof.ReferenceIdeal.Query.lean ====
/-
  Each retriever's query as the reference computes it.
-/
module

public import proofs.«01_k».proof.Proof.ReferenceIdeal.Inputs
public import proofs.«01_k».proof.Proof.Gen.ReferenceIdeal.Run
public import Idealize.ShloMosaic.Lib.Tactic.CleanTypes

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe

variable (V : Valuation τ sig (Elt Ideal))

/-- The count a variance divides by. -/
theorem count : Model.bits 0x44800000#32 - (((0#32 : BitVec 32).toInt : ℝ) : EReal) = Model.bits 0x44800000#32 := by
  simp

theorem count_pos : (0 : EReal) < Model.bits 0x44800000#32 := by
  rw [Model.b1024]; exact EReal.coe_pos.2 (by norm_num)

theorem max_ninf (x : EReal) : max (Model.bits 0xFF800000#32) x = x := by
  rw [Model.ninf]; exact max_bot_left x

/-- The greatest entry of a row, from minus infinity. -/
theorem rowMax (L : FVec Ideal S1x2048x2048 .f32) (s : Fin 2048) :
    (Host.reduce FloatOps.maximumf L (constant S_ .f32 0xFF800000#32) reducesTo_S1x2048x2048_S1x2048_d2 h_S_ : FVec Ideal S1x2048 .f32) (ix2 0 s)
      = Finset.univ.fold max (Model.bits 0xFF800000#32) (fun t => L (ix3 0 s t)) := by
  pointwise

/-- The exponential of an entry less `R` of its row. -/
theorem lessMax (L : FVec Ideal S1x2048x2048 .f32) (R : FVec Ideal S1x2048 .f32) (s t : Fin 2048) :
    (Host.exp (subf L (broadcastInDim S1x2048x2048 ![0, 1, 2] bcast_S1x2048x1_S1x2048x2048_0_1_2 (broadcastInDim S1x2048x1 ![0, 1] bcast_S1x2048_S1x2048x1_0_1 (maximumf (broadcastInDim S1x2048 ![] bcast_S_S1x2048 (constant S_ .f32 0xFF800000#32)) R)))) : FVec Ideal S1x2048x2048 .f32) (ix3 0 s t)
      = Ideal.exp (L (ix3 0 s t) - max (Model.bits 0xFF800000#32) (R (ix2 0 s))) := by
  pointwise

/-! ## Retriever 0 -/

theorem z0 (s : Fin 2048) (d : Fin 1024) :
    (res_main_v7 V : FVec Ideal S1x2048x1024 .f32) (ix3 0 s d)
      = Model.affine (fun s k => a0 V (ix3 0 s k)) (fun k d => a2 V (ix3 0 k d)) (fun d => a3 V (ix2 0 d)) s d := by
  unfold res_main_v7
  clean_types
  pointwise
  all_goals rfl

theorem q0 (s : Fin 2048) (d : Fin 1024) :
    (res_main_v28 V : FVec Ideal S1x2048x1024 .f32) (ix3 0 s d) = feats V 0 s d := by
  unfold res_main_v28
  clean_types
  pointwise
  simp only [z0]
  all_goals rfl

theorem l0 (s t : Fin 2048) :
    (res_main_v32 V : FVec Ideal S1x2048x2048 .f32) (ix3 0 s t)
      = Model.logit (Ideal.sqrt (Model.bits 0x44800000#32)) (feats V 0) (feats V 0) s t := by
  unfold res_main_v32
  clean_types
  pointwise
  simp only [q0]
  all_goals rfl

theorem e0 (s t : Fin 2048) :
    (res_main_v39 V : FVec Ideal S1x2048x2048 .f32) (ix3 0 s t)
      = Model.expo (Model.logit (Ideal.sqrt (Model.bits 0x44800000#32)) (feats V 0) (feats V 0) s) t := by
  have h : (fun t => (res_main_v32 V : FVec Ideal S1x2048x2048 .f32) (ix3 0 s t)) = Model.logit (Ideal.sqrt (Model.bits 0x44800000#32)) (feats V 0) (feats V 0) s := funext (l0 V s)
  refine (lessMax (res_main_v32 V) _ s t).trans ?_
  rw [rowMax, h, max_ninf, l0, Model.expo]

theorem p0 (d : Fin 1024) :
    (res_main_v47 V : FVec Ideal S1x1024 .f32) (ix2 0 d) = Model.poolRows (feats V 0) d := by
  unfold res_main_v47
  clean_types
  pointwise
  simp only [e0, q0]
  all_goals rfl

theorem c0 (d : Fin 1024) :
    (res_main_call0_v5 V : FVec Ideal S1x1024 .f32) (ix2 0 d)
      = Model.poolRows (feats V 0) d - Model.mean (Model.poolRows (feats V 0)) := by
  unfold res_main_call0_v5
  clean_types
  pointwise
  simp only [p0]
  all_goals rfl

theorem n0 : (res_main_call0_v8 V : FVec Ideal S_ .f32) ix0 = Model.bits 0x44800000#32 := by
  unfold res_main_call0_v8
  clean_types
  pointwise
  exact count

theorem query0 (d : Fin 1024) :
    (res_main_v228 V : FVec Ideal S3x1x1024 .f32) (ix3 0 0 d) = queryRow V 0 d := by
  unfold res_main_v228
  clean_types
  pointwise
  simp only [p0, c0, n0, count_pos, if_true]
  all_goals rfl

/-! ## Retriever 1 -/

theorem z1 (s : Fin 2048) (d : Fin 1024) :
    (res_main_v82 V : FVec Ideal S1x2048x1024 .f32) (ix3 0 s d)
      = Model.affine (fun s k => a0 V (ix3 0 s k)) (fun k d => a2 V (ix3 1 k d)) (fun d => a3 V (ix2 1 d)) s d := by
  unfold res_main_v82
  clean_types
  pointwise
  all_goals rfl

theorem q1 (s : Fin 2048) (d : Fin 1024) :
    (res_main_v103 V : FVec Ideal S1x2048x1024 .f32) (ix3 0 s d) = feats V 1 s d := by
  unfold res_main_v103
  clean_types
  pointwise
  simp only [z1]
  all_goals rfl

theorem l1 (s t : Fin 2048) :
    (res_main_v107 V : FVec Ideal S1x2048x2048 .f32) (ix3 0 s t)
      = Model.logit (Ideal.sqrt (Model.bits 0x44800000#32)) (feats V 1) (feats V 1) s t := by
  unfold res_main_v107
  clean_types
  pointwise
  simp only [q1]
  all_goals rfl

theorem e1 (s t : Fin 2048) :
    (res_main_v114 V : FVec Ideal S1x2048x2048 .f32) (ix3 0 s t)
      = Model.expo (Model.logit (Ideal.sqrt (Model.bits 0x44800000#32)) (feats V 1) (feats V 1) s) t := by
  have h : (fun t => (res_main_v107 V : FVec Ideal S1x2048x2048 .f32) (ix3 0 s t)) = Model.logit (Ideal.sqrt (Model.bits 0x44800000#32)) (feats V 1) (feats V 1) s := funext (l1 V s)
  refine (lessMax (res_main_v107 V) _ s t).trans ?_
  rw [rowMax, h, max_ninf, l1, Model.expo]

theorem p1 (d : Fin 1024) :
    (res_main_v122 V : FVec Ideal S1x1024 .f32) (ix2 0 d) = Model.poolRows (feats V 1) d := by
  unfold res_main_v122
  clean_types
  pointwise
  simp only [e1, q1]
  all_goals rfl

theorem c1 (d : Fin 1024) :
    (res_main_call1_v5 V : FVec Ideal S1x1024 .f32) (ix2 0 d)
      = Model.poolRows (feats V 1) d - Model.mean (Model.poolRows (feats V 1)) := by
  unfold res_main_call1_v5
  clean_types
  pointwise
  simp only [p1]
  all_goals rfl

theorem n1 : (res_main_call1_v8 V : FVec Ideal S_ .f32) ix0 = Model.bits 0x44800000#32 := by
  unfold res_main_call1_v8
  clean_types
  pointwise
  exact count

theorem query1 (d : Fin 1024) :
    (res_main_v228 V : FVec Ideal S3x1x1024 .f32) (ix3 1 0 d) = queryRow V 1 d := by
  unfold res_main_v228
  clean_types
  pointwise
  simp only [p1, c1, n1, count_pos, if_true]
  all_goals rfl

/-! ## Retriever 2 -/

theorem z2 (s : Fin 2048) (d : Fin 1024) :
    (res_main_v157 V : FVec Ideal S1x2048x1024 .f32) (ix3 0 s d)
      = Model.affine (fun s k => a0 V (ix3 0 s k)) (fun k d => a2 V (ix3 2 k d)) (fun d => a3 V (ix2 2 d)) s d := by
  unfold res_main_v157
  clean_types
  pointwise
  all_goals rfl

theorem q2 (s : Fin 2048) (d : Fin 1024) :
    (res_main_v178 V : FVec Ideal S1x2048x1024 .f32) (ix3 0 s d) = feats V 2 s d := by
  unfold res_main_v178
  clean_types
  pointwise
  simp only [z2]
  all_goals rfl

theorem l2 (s t : Fin 2048) :
    (res_main_v182 V : FVec Ideal S1x2048x2048 .f32) (ix3 0 s t)
      = Model.logit (Ideal.sqrt (Model.bits 0x44800000#32)) (feats V 2) (feats V 2) s t := by
  unfold res_main_v182
  clean_types
  pointwise
  simp only [q2]
  all_goals rfl

theorem e2 (s t : Fin 2048) :
    (res_main_v189 V : FVec Ideal S1x2048x2048 .f32) (ix3 0 s t)
      = Model.expo (Model.logit (Ideal.sqrt (Model.bits 0x44800000#32)) (feats V 2) (feats V 2) s) t := by
  have h : (fun t => (res_main_v182 V : FVec Ideal S1x2048x2048 .f32) (ix3 0 s t)) = Model.logit (Ideal.sqrt (Model.bits 0x44800000#32)) (feats V 2) (feats V 2) s := funext (l2 V s)
  refine (lessMax (res_main_v182 V) _ s t).trans ?_
  rw [rowMax, h, max_ninf, l2, Model.expo]

theorem p2 (d : Fin 1024) :
    (res_main_v197 V : FVec Ideal S1x1024 .f32) (ix2 0 d) = Model.poolRows (feats V 2) d := by
  unfold res_main_v197
  clean_types
  pointwise
  simp only [e2, q2]
  all_goals rfl

theorem c2 (d : Fin 1024) :
    (res_main_call2_v5 V : FVec Ideal S1x1024 .f32) (ix2 0 d)
      = Model.poolRows (feats V 2) d - Model.mean (Model.poolRows (feats V 2)) := by
  unfold res_main_call2_v5
  clean_types
  pointwise
  simp only [p2]
  all_goals rfl

theorem n2 : (res_main_call2_v8 V : FVec Ideal S_ .f32) ix0 = Model.bits 0x44800000#32 := by
  unfold res_main_call2_v8
  clean_types
  pointwise
  exact count

theorem query2 (d : Fin 1024) :
    (res_main_v228 V : FVec Ideal S3x1x1024 .f32) (ix3 2 0 d) = queryRow V 2 d := by
  unfold res_main_v228
  clean_types
  pointwise
  simp only [p2, c2, n2, count_pos, if_true]
  all_goals rfl

/-- Row `r` of the reference's queries. -/
theorem query_at (r : Fin 3) (d : Fin 1024) :
    (res_main_v228 V : FVec Ideal S3x1x1024 .f32) (ix3 r 0 d) = queryRow V r d := by
  fin_cases r
  · exact query0 V d
  · exact query1 V d
  · exact query2 V d

end Cert.ReferenceIdeal.Own
-- ==== Proof.ReferenceIdeal.Fuse.lean ====
/-
  The fusion as the reference computes it, from the retrieved rows.
-/
module

public import proofs.«01_k».proof.Proof.ReferenceIdeal.Query

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe

variable (V : Valuation τ sig (Elt Ideal))

/-- Feature `k` of the `t`-th retrieved row, the retrievers one after another. -/
def token (t : Fin 768) (k : Fin 1024) : EReal :=
  (res_main_v236 V : FVec Ideal S3x1x256x1024 .f32) (ix4 ⟨t / 256, by omega⟩ 0 ⟨t % 256, by omega⟩ k)

/-- The queries, keys and values of the cross attention. -/
abbrev fq : Fin 2048 → Fin 1024 → EReal :=
  Model.affine (fun s k => a0 V (ix3 0 s k)) (fun k d => a14 V (ix2 k d)) (fun d => a15 V (ix1 d))
abbrev fk : Fin 768 → Fin 1024 → EReal :=
  Model.affine (token V) (fun k d => a16 V (ix2 k d)) (fun d => a17 V (ix1 d))
abbrev fv : Fin 768 → Fin 1024 → EReal :=
  Model.affine (token V) (fun k d => a18 V (ix2 k d)) (fun d => a19 V (ix1 d))

/-- Head `h`'s logits. -/
abbrev headLogit (h : Fin 8) : Fin 2048 → Fin 768 → EReal :=
  Model.logit (Ideal.sqrt (Model.bits 0x43000000#32)) (fun s e => fq V s (Model.col h e)) (fun t e => fk V t (Model.col h e))

/-- The residual stream before the last norm. -/
def residual : Fin 2048 → Fin 1024 → EReal :=
  Model.resid (fun s k => a0 V (ix3 0 s k)) (token V) (fun k d => a14 V (ix2 k d)) (fun d => a15 V (ix1 d))
    (fun k d => a16 V (ix2 k d)) (fun d => a17 V (ix1 d)) (fun k d => a18 V (ix2 k d)) (fun d => a19 V (ix1 d))
    (fun k d => a20 V (ix2 k d)) (fun d => a21 V (ix1 d))

theorem token_at (t : Fin 768) (k : Fin 1024) :
    (res_main_v271 V : FVec Ideal S1x768x1024 .f32) (ix3 0 t k) = token V t k := by
  unfold res_main_v271
  clean_types
  pointwise
  all_goals rfl

/-- A logistic value is not negative. -/
theorem logistic_nonneg (z : EReal) : 0 ≤ Ideal.div 1 (1 + Ideal.exp z) := by
  have h : (0 : EReal) < 1 + Ideal.exp z :=
    lt_of_lt_of_le zero_lt_one (le_add_of_nonneg_right (Model.exp_nonneg z))
  simp only [Ideal.div, if_neg h.ne', one_mul]
  exact EReal.inv_nonneg_of_nonneg h.le

/-- The gate passes every retrieved row. -/
theorem headLogit_at (h : Fin 8) (s : Fin 2048) (t : Fin 768) :
    (res_main_v297 V : FVec Ideal S1x8x2048x768 .f32) (ix4 0 h s t) = headLogit V h s t := by
  unfold res_main_v297
  clean_types
  pointwise
  rw [if_pos (logistic_nonneg _)]
  simp only [token_at]
  all_goals rfl

theorem headMax (L : FVec Ideal S1x8x2048x768 .f32) (h : Fin 8) (s : Fin 2048) :
    (Host.reduce FloatOps.maximumf L (constant S_ .f32 0xFF800000#32) reducesTo_S1x8x2048x768_S1x8x2048_d3 h_S_ : FVec Ideal S1x8x2048 .f32) (ix3 0 h s)
      = Finset.univ.fold max (Model.bits 0xFF800000#32) (fun t => L (ix4 0 h s t)) := by
  pointwise

theorem headLess (L : FVec Ideal S1x8x2048x768 .f32) (R : FVec Ideal S1x8x2048 .f32) (h : Fin 8) (s : Fin 2048) (t : Fin 768) :
    (Host.exp (subf L (broadcastInDim S1x8x2048x768 ![0, 1, 2, 3] bcast_S1x8x2048x1_S1x8x2048x768_0_1_2_3 (broadcastInDim S1x8x2048x1 ![0, 1, 2] bcast_S1x8x2048_S1x8x2048x1_0_1_2 (maximumf (broadcastInDim S1x8x2048 ![] bcast_S_S1x8x2048 (constant S_ .f32 0xFF800000#32)) R)))) : FVec Ideal S1x8x2048x768 .f32) (ix4 0 h s t)
      = Ideal.exp (L (ix4 0 h s t) - max (Model.bits 0xFF800000#32) (R (ix3 0 h s))) := by
  pointwise

theorem headExp_at (h : Fin 8) (s : Fin 2048) (t : Fin 768) :
    (res_main_v304 V : FVec Ideal S1x8x2048x768 .f32) (ix4 0 h s t) = Model.expo (headLogit V h s) t := by
  have e : (fun t => (res_main_v297 V : FVec Ideal S1x8x2048x768 .f32) (ix4 0 h s t)) = headLogit V h s :=
    funext (headLogit_at V h s)
  refine (headLess (res_main_v297 V) _ h s t).trans ?_
  rw [headMax, e, max_ninf, headLogit_at, Model.expo]

theorem residual_at (s : Fin 2048) (d : Fin 1024) :
    (res_main_v316 V : FVec Ideal S1x2048x1024 .f32) (ix3 0 s d) = residual V s d := by
  unfold res_main_v316
  clean_types
  pointwise
  simp only [headExp_at, token_at]
  all_goals rfl

theorem centred_at (s : Fin 2048) (d : Fin 1024) :
    (res_main_call4_v5 V : FVec Ideal S1x2048x1024 .f32) (ix3 0 s d) = residual V s d - Model.mean (residual V s) := by
  unfold res_main_call4_v5
  clean_types
  pointwise
  simp only [residual_at]
  all_goals rfl

theorem count_at : (res_main_call4_v8 V : FVec Ideal S_ .f32) ix0 = Model.bits 0x44800000#32 := by
  unfold res_main_call4_v8
  clean_types
  pointwise
  exact count

/-- The last norm of `x`, given `x` less its means and the count. -/
def lastNorm (x y : FVec Ideal S1x2048x1024 .f32) (n : FVec Ideal S_ .f32) (g b : FVec Ideal S1024 .f32) : FVec Ideal S1x2048x1024 .f32 :=
  addf (mulf (Host.divf (subf x (broadcastInDim S1x2048x1024 ![0, 1, 2] bcast_S1x2048x1_S1x2048x1024_0_1_2 (Host.divf (broadcastInDim S1x2048x1 ![0, 1] bcast_S1x2048_S1x2048x1_0_1 (Host.reduceAdd x (constant S_ .f32 0x00000000#32) reducesTo_S1x2048x1024_S1x2048_d2 h_S_)) (broadcastInDim S1x2048x1 ![] bcast_S_S1x2048x1 (constant S_ .f32 0x44800000#32))))) (broadcastInDim S1x2048x1024 ![0, 1, 2] bcast_S1x2048x1_S1x2048x1024_0_1_2 (Host.sqrt (addf (select (broadcastInDim S1x2048x1 ![] bcast_S_S1x2048x1 (cmpf .ogt n (constant S_ .f32 0x00000000#32))) (Host.divf (broadcastInDim S1x2048x1 ![0, 1] bcast_S1x2048_S1x2048x1_0_1 (Host.reduceAdd (mulf y y) (constant S_ .f32 0x00000000#32) reducesTo_S1x2048x1024_S1x2048_d2 h_S_)) (broadcastInDim S1x2048x1 ![] bcast_S_S1x2048x1 n)) (broadcastInDim S1x2048x1 ![] bcast_S_S1x2048x1 (id (constant S_ .f32 0x7FC00000#32)))) (broadcastInDim S1x2048x1 ![] bcast_S_S1x2048x1 (constant S_ .f32 0x3727C5AC#32)))))) (broadcastInDim S1x2048x1024 ![0, 1, 2] bcast_S1x1x1024_S1x2048x1024_0_1_2 (broadcastInDim S1x1x1024 ![2] bcast_S1024_S1x1x1024_2 g))) (broadcastInDim S1x2048x1024 ![0, 1, 2] bcast_S1x1x1024_S1x2048x1024_0_1_2 (broadcastInDim S1x1x1024 ![2] bcast_S1024_S1x1x1024_2 b))

theorem lastNorm_at (x y : FVec Ideal S1x2048x1024 .f32) (n : FVec Ideal S_ .f32) (g b : FVec Ideal S1024 .f32) (s : Fin 2048) (d : Fin 1024)
    (hn : n ix0 = Model.bits 0x44800000#32)
    (hy : ∀ d, y (ix3 0 s d) = x (ix3 0 s d) - Model.mean (fun d => x (ix3 0 s d))) :
    lastNorm x y n g b (ix3 0 s d) = Model.norm (fun d => x (ix3 0 s d)) d * g (ix1 d) + b (ix1 d) := by
  unfold lastNorm
  pointwise
  simp only [hn, hy, count_pos, if_true]
  all_goals rfl

/-- The reference's result. -/
def result : FVec Ideal S1x2048x1024 .f32 :=
  lastNorm (res_main_v316 V) (res_main_call4_v5 V) (res_main_call4_v8 V) (a22 V) (a23 V)

theorem result_at (s : Fin 2048) (d : Fin 1024) :
    result V (ix3 0 s d) = Model.norm (residual V s) d * a22 V (ix1 d) + a23 V (ix1 d) := by
  have e : (fun d => (res_main_v316 V : FVec Ideal S1x2048x1024 .f32) (ix3 0 s d)) = residual V s :=
    funext (residual_at V s)
  rw [result, lastNorm_at _ _ _ _ _ s d (count_at V) (fun d => by rw [centred_at, residual_at, e]), e]

end Cert.ReferenceIdeal.Own
-- ==== Proof.ReferenceIdeal.Rows.lean ====
/-
  The reference's retrieved rows: the memory's rows at the positions of the greatest scores.
-/
module

public import proofs.«01_k».proof.Proof.Order
public import proofs.«01_k».proof.Proof.ReferenceIdeal.Query
public import proofs.«01_k».proof.Proof.ReferenceIdeal.Fuse

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic

variable (V : Valuation τ sig (Elt Ideal))

/-- Row `n` of the memory scored by retriever `r`'s query. -/
def scores (r : Fin 3) (n : Fin 100000) : EReal := ∑ k, queryRow V r k * a1 V (ix2 n k)

theorem product_at (x : FVec Ideal S3x1x1024 .f32) (y : FVec Ideal S100000x1024 .f32) (r : Fin 3) (n : Fin 100000) :
    (Host.dotGeneral dot_S3x1x1024_S100000x1024_S3x1x100000_2_1_01_0_n_n none x y : FVec Ideal S3x1x100000 .f32) (ix3 r 0 n)
      = ∑ k, x (ix3 r 0 k) * y (ix2 n k) := by
  pointwise

theorem scores_at (r : Fin 3) (n : Fin 100000) :
    (res_main_v229 V : FVec Ideal S3x1x100000 .f32) (ix3 r 0 n) = scores V r n := by
  unfold res_main_v229
  clean_types
  refine (product_at (res_main_v228 V) (a1 V) r n).trans ?_
  simp only [query_at]
  rfl

theorem indices_at (r : Fin 3) (j : Fin 256) :
    (res_main_indices V : IVec S3x1x256 32) (ix3 r 0 j) = Cert.Own.pick (scores V r) j := by
  unfold res_main_indices
  clean_types
  refine (Cert.Own.pickR (res_main_v229 V) _ r j).trans ?_
  simp only [scores_at]

theorem wrap_at (x : IVec S3x1x256 32) (r : Fin 3) (j : Fin 256) :
    (broadcastInDim S3x1x256x1 ![0, 1, 2] bcast_S3x1x256_S3x1x256x1_0_1_2 (select (cmpi .slt x (broadcastInDim S3x1x256 ![] bcast_S_S3x1x256 (constantI S_ 32 0#32))) (addi x (broadcastInDim S3x1x256 ![] bcast_S_S3x1x256 (constantI S_ 32 100000#32))) x) : IVec S3x1x256x1 32) (ix4 r 0 j 0)
      = Scalar.select (IntOp.cmpi .slt (x (ix3 r 0 j)) 0#32) (IntOp.addi (x (ix3 r 0 j)) 100000#32) (x (ix3 r 0 j)) := by
  pointwise
  all_goals rfl

theorem rows_at (r : Fin 3) (j : Fin 256) (k : Fin 1024) :
    (res_main_v236 V : FVec Ideal S3x1x256x1024 .f32) (ix4 r 0 j k)
      = a1 V (ix2 (Cert.Own.rowOf (Cert.Own.pick (scores V r) j)) k) := by
  unfold res_main_v236
  clean_types
  refine (Cert.Own.gatherR (a1 V) _ r j k).trans ?_
  refine congrArg (fun n => a1 V (ix2 n k)) (Fin.ext ?_)
  refine congrArg (fun w : BitVec 32 => min w.toInt.toNat 99999) ?_
  rw [← indices_at]
  exact wrap_at (res_main_indices V) r j

theorem token_row (t : Fin 768) (k : Fin 1024) :
    token V t k = a1 V (ix2 (Cert.Own.rowOf (Cert.Own.pick (scores V ⟨t / 256, by omega⟩) ⟨t % 256, by omega⟩)) k) :=
  rows_at V _ _ k

end Cert.ReferenceIdeal.Own
-- ==== Proof.KernelIdeal.Query.lean ====
/-
  The query body's row at an index, and a score block's entry.
-/
module

public import proofs.«01_k».proof.Proof.KernelIdeal.Bodies
public import proofs.«01_k».proof.Proof.Model

@[expose] public section

set_option maxRecDepth 16384

noncomputable section

namespace Cert.KernelIdeal.Own

open Cert.KernelIdeal Cert.KernelIdeal.Gen
open Idealize.ShloMosaic Idealize.ShloMosaic.TcCoe

open Cert.Model (soft feat bits)

theorem feat_at (x : FVec Ideal S2048x1024 .f32) (w1 : FVec Ideal S1x1024x1024 .f32) (b1 : FVec Ideal S1x1x1024 .f32)
    (w2 : FVec Ideal S1x1024x1024 .f32) (b2 : FVec Ideal S1x1x1024 .f32) (s : Fin 2048) (d : Fin 1024) :
    k0_pay2 (F := Ideal) x w1 b1 w2 b2 (ix2 s d)
      = feat (fun s k => x (ix2 s k)) (fun k d => w1 (ix3 0 k d)) (fun d => b1 (ix3 0 0 d)) (fun k d => w2 (ix3 0 k d))
          (fun d => b2 (ix3 0 0 d)) s d := by
  pointwise [k0_pay2]
  unfold Model.feat Model.affine Model.act
  refine congrArg (· + _) (Finset.sum_congr rfl fun k _ => congrArg (· * _) ?_)
  simp only [mul_assoc]

/-- The first three chunks' weights. -/
theorem w3_at (q : FVec Ideal S2048x1024 .f32) (r : EReal) (v31 : FVec Ideal S1x2048 .f32) (v33 v34 : FVec Ideal S512x2048 .f32)
    (t : Fin 2048) :
    k0_pay7 (F := Ideal) q r v31 v33 v34 (ix2 0 t)
      = v31 (ix2 0 t) + ∑ s : Fin 512, soft (fun t => v33 (ix2 s t) * v34 (ix2 s t)) t
        + ∑ s : Fin 512, soft (fun t => (∑ l : Fin 1024, q (ix2 ⟨512 + s, by omega⟩ l) * q (ix2 t l)) * r) t
        + ∑ s : Fin 512, soft (fun t => (∑ l : Fin 1024, q (ix2 ⟨1024 + s, by omega⟩ l) * q (ix2 t l)) * r) t := by
  pointwise [k0_pay7]
  rfl

/-- The last chunk, the pooled row and its norm. -/
theorem row_at (q : FVec Ideal S2048x1024 .f32) (v79 : FVec Ideal S1x2048 .f32) (v81 v82 : FVec Ideal S512x2048 .f32)
    (g b : FVec Ideal S1x1x1024 .f32) (d : Fin 1024) :
    k0_pay10 (F := Ideal) q v79 v81 v82 g b (ix2 0 d)
      = Model.norm (fun d => Ideal.div (∑ t : Fin 2048, (v79 (ix2 0 t) + ∑ s : Fin 512, soft (fun t => v81 (ix2 s t) * v82 (ix2 s t)) t)
          * q (ix2 t d)) (bits 0x45000000#32)) d * g (ix3 0 0 d) + b (ix3 0 0 d) := by
  pointwise [k0_pay10]
  rfl

theorem c0_at (x : FVec Ideal S2048x1024 .f32) (w1 : FVec Ideal S1x1024x1024 .f32) (b1 : FVec Ideal S1x1x1024 .f32)
    (w2 : FVec Ideal S1x1024x1024 .f32) (b2 : FVec Ideal S1x1x1024 .f32) (s : Fin 512) (t : Fin 2048) :
    k0_pay5 (F := Ideal) x w1 b1 w2 b2 (ix2 s t)
      = ∑ l : Fin 1024, k0_pay2 (F := Ideal) x w1 b1 w2 b2 (ix2 ⟨s, by omega⟩ l) * k0_pay2 (F := Ideal) x w1 b1 w2 b2 (ix2 t l) := by
  pointwise [k0_pay5]

theorem c3_at (q : FVec Ideal S2048x1024 .f32) (s : Fin 512) (t : Fin 2048) :
    k0_pay8 (F := Ideal) q (ix2 s t) = ∑ l : Fin 1024, q (ix2 ⟨1536 + s, by omega⟩ l) * q (ix2 t l) := by
  pointwise [k0_pay8]

theorem last_at (v : FVec Ideal S1x1024 .f32) (pw : FVec Ideal S1x1024x1024 .f32) (pb : FVec Ideal S1x1x1024 .f32) (d : Fin 1024) :
    k0_pay1 (F := Ideal) v pw pb (ix3 0 0 d) = ∑ k : Fin 1024, v (ix2 0 k) * pw (ix3 0 k d) + pb (ix3 0 0 d) := by
  pointwise [k0_pay1]

theorem recip1024 : k0_pay3 (F := Ideal) = Ideal.div 1 (Ideal.sqrt (bits 0x44800000#32)) := by
  pointwise [k0_pay3]
  rfl

theorem zero_at (t : Fin 2048) : k0_pay4 (F := Ideal) (ix2 0 t) = 0 := by
  pointwise [k0_pay4]

theorem scale0_at (s : Fin 512) (t : Fin 2048) : k0_pay6 (F := Ideal) (ix2 s t) = k0_pay3 (F := Ideal) := by
  pointwise [k0_pay6]

theorem scale3_at (r : EReal) (s : Fin 512) (t : Fin 2048) : k0_pay9 (F := Ideal) r (ix2 s t) = r := by
  pointwise [k0_pay9]

/-- The row a query body writes. -/
theorem queryOut_at (x : FVec Ideal S2048x1024 .f32) (w1 : FVec Ideal S1x1024x1024 .f32) (b1 : FVec Ideal S1x1x1024 .f32)
    (w2 : FVec Ideal S1x1024x1024 .f32) (b2 g b : FVec Ideal S1x1x1024 .f32) (pw : FVec Ideal S1x1024x1024 .f32)
    (pb : FVec Ideal S1x1x1024 .f32) (d : Fin 1024) :
    queryOut (F := Ideal) x w1 b1 w2 b2 g b pw pb (ix3 0 0 d)
      = Model.query (Model.poolRows (feat (fun s k => x (ix2 s k)) (fun k d => w1 (ix3 0 k d)) (fun d => b1 (ix3 0 0 d))
            (fun k d => w2 (ix3 0 k d)) (fun d => b2 (ix3 0 0 d))))
          (fun d => g (ix3 0 0 d)) (fun d => b (ix3 0 0 d)) (fun k d => pw (ix3 0 k d)) (fun d => pb (ix3 0 0 d)) d := by
  rw [← Model.query_pool]
  unfold queryOut
  rw [last_at]
  simp only [row_at, w3_at, c0_at, c3_at, zero_at, scale0_at, scale3_at, feat_at, recip1024, zero_add, Model.mul_recip _ Model.s1024]
  unfold Model.query Model.poolCols
  refine congrArg (· + _) (Finset.sum_congr rfl fun k _ => congrArg (fun v : Fin 1024 → EReal => (Model.norm v k * _ + _) * _) ?_)
  funext d
  refine congrArg (Ideal.div · _) (Finset.sum_congr rfl fun t _ => congrArg (· * _) ?_)
  rw [Fin.sum_univ_tiles 4 512 rfl, Fin.sum_univ_four]
  unfold Model.att Model.logit
  refine congrArg₂ (· + ·) (congrArg₂ (· + ·) (congrArg₂ (· + ·) ?_ ?_) ?_) ?_ <;> refine Finset.sum_congr rfl fun s _ => ?_
  · congr!; simp
  · rfl
  · rfl
  · rfl

end Cert.KernelIdeal.Own
-- ==== Proof.KernelIdeal.Fuse.lean ====
/-
  The fused body's result at an index.
-/
module

public import proofs.«01_k».proof.Proof.KernelIdeal.Bodies
public import proofs.«01_k».proof.Proof.Model

@[expose] public section

set_option maxRecDepth 16384

noncomputable section

namespace Cert.KernelIdeal.Own

open Cert.KernelIdeal Cert.KernelIdeal.Gen
open Idealize.ShloMosaic Idealize.ShloMosaic.TcCoe

open Cert.Model (soft bits affine)

/-- One head's attended values, its columns starting at `o`. -/
def piece (o : ℕ) (ho : o + 128 ≤ 1024) (r : EReal) (q : FVec Ideal S2048x1024 .f32) (k v : FVec Ideal S768x1024 .f32)
    (s : Fin 2048) (e : Fin 128) : EReal :=
  ∑ t : Fin 768, soft (fun t => (∑ l : Fin 128, q (ix2 s ⟨o + l, by omega⟩) * k (ix2 t ⟨o + l, by omega⟩)) * r) t
    * v (ix2 t ⟨o + e, by omega⟩)

section Pieces
variable (q : FVec Ideal S2048x1024 .f32) (k v : FVec Ideal S768x1024 .f32) (r : EReal) (s : Fin 2048) (e : Fin 128)

theorem piece1 : k2_pay12 (F := Ideal) q k v r (ix2 s e) = piece 128 (by decide) r q k v s e := by
  pointwise [k2_pay12]; rfl
theorem piece2 : k2_pay13 (F := Ideal) q k v r (ix2 s e) = piece 256 (by decide) r q k v s e := by
  pointwise [k2_pay13]; rfl
theorem piece3 : k2_pay17 (F := Ideal) (k2_pay14 (F := Ideal) v) (k2_pay15 (F := Ideal) q k r) (k2_pay16 (F := Ideal) q k r) (ix2 s e)
    = piece 384 (by decide) r q k v s e := by
  pointwise [k2_pay17, k2_pay14, k2_pay15, k2_pay16]; rfl
theorem piece4 : k2_pay18 (F := Ideal) q k v r (ix2 s e) = piece 512 (by decide) r q k v s e := by
  pointwise [k2_pay18]; rfl
theorem piece5 : k2_pay19 (F := Ideal) q k v r (ix2 s e) = piece 640 (by decide) r q k v s e := by
  pointwise [k2_pay19]; rfl

end Pieces

theorem q_at (x : FVec Ideal S2048x1024 .f32) (w : FVec Ideal S1024x1024 .f32) (b : FVec Ideal S1x1024 .f32) (s : Fin 2048) (d : Fin 1024) :
    k2_pay4 (F := Ideal) x w b (ix2 s d) = affine (fun s k => x (ix2 s k)) (fun k d => w (ix2 k d)) (fun d => b (ix2 0 d)) s d := by
  pointwise [k2_pay4, k2_pay2]; rfl
theorem k_at (x : FVec Ideal S768x1024 .f32) (w : FVec Ideal S1024x1024 .f32) (b : FVec Ideal S1x1024 .f32) (s : Fin 768) (d : Fin 1024) :
    k2_pay5 (F := Ideal) x w b (ix2 s d) = affine (fun s k => x (ix2 s k)) (fun k d => w (ix2 k d)) (fun d => b (ix2 0 d)) s d := by
  pointwise [k2_pay5, k2_pay3]; rfl
theorem v_at (x : FVec Ideal S768x1024 .f32) (w : FVec Ideal S1024x1024 .f32) (b : FVec Ideal S1x1024 .f32) (s : Fin 768) (d : Fin 1024) :
    k2_pay6 (F := Ideal) x w b (ix2 s d) = affine (fun s k => x (ix2 s k)) (fun k d => w (ix2 k d)) (fun d => b (ix2 0 d)) s d := by
  pointwise [k2_pay6, k2_pay3]; rfl

theorem recip128 : k2_pay7 (F := Ideal) = Ideal.div 1 (Ideal.sqrt (bits 0x43000000#32)) := by
  pointwise [k2_pay7]; rfl

theorem piece0 (x : FVec Ideal S2048x1024 .f32) (kv : FVec Ideal S768x1024 .f32) (wq wk wv : FVec Ideal S1024x1024 .f32)
    (bq bk bv : FVec Ideal S1x1024 .f32) (s : Fin 2048) (e : Fin 128) :
    k2_pay11 (F := Ideal) (k2_pay8 (F := Ideal) kv wv bv) (k2_pay9 (F := Ideal) x kv wq bq wk bk) (k2_pay10 (F := Ideal) x kv wq bq wk bk) (ix2 s e)
      = piece 0 (by decide) (k2_pay7 (F := Ideal)) (k2_pay4 (F := Ideal) x wq bq) (k2_pay5 (F := Ideal) kv wk bk) (k2_pay6 (F := Ideal) kv wv bv) s e := by
  pointwise [k2_pay11, k2_pay8, k2_pay9, k2_pay10]
  unfold piece Model.soft Model.expo
  simp only [Nat.zero_add]

theorem piece_congr {o o' : ℕ} (ho : o + 128 ≤ 1024) (ho' : o' + 128 ≤ 1024) (r : EReal) (q : FVec Ideal S2048x1024 .f32)
    (k v : FVec Ideal S768x1024 .f32) (s : Fin 2048) {e e' : Fin 128} (h : o = o') (h' : (e : ℕ) = e') :
    piece o ho r q k v s e = piece o' ho' r q k v s e' := by
  subst h; rw [Fin.ext h']

/-- The residual row before the norm, given the first six pieces. -/
theorem resid_at (x q : FVec Ideal S2048x1024 .f32) (k v : FVec Ideal S768x1024 .f32) (r : EReal)
    (p0 p1 p2 p3 p4 p5 : FVec Ideal S2048x128 .f32) (wo : FVec Ideal S1024x1024 .f32) (bo : FVec Ideal S1x1024 .f32)
    (s : Fin 2048) (d : Fin 1024)
    (h0 : ∀ e, p0 (ix2 s e) = piece 0 (by decide) r q k v s e) (h1 : ∀ e, p1 (ix2 s e) = piece 128 (by decide) r q k v s e)
    (h2 : ∀ e, p2 (ix2 s e) = piece 256 (by decide) r q k v s e) (h3 : ∀ e, p3 (ix2 s e) = piece 384 (by decide) r q k v s e)
    (h4 : ∀ e, p4 (ix2 s e) = piece 512 (by decide) r q k v s e) (h5 : ∀ e, p5 (ix2 s e) = piece 640 (by decide) r q k v s e) :
    k2_pay23 (F := Ideal) x q k v r p0 p1 p2 p3 p4 p5 (k2_pay20 (F := Ideal) v) (k2_pay21 (F := Ideal) q k r)
        (k2_pay22 (F := Ideal) q k r) wo bo (ix2 s d)
      = x (ix2 s d) + (∑ l : Fin 1024, piece (l / 128 * 128) (by omega) r q k v s ⟨l % 128, Nat.mod_lt _ (by decide)⟩ * wo (ix2 l d)
          + bo (ix2 0 d)) := by
  pointwise [k2_pay23, k2_pay20, k2_pay21, k2_pay22]
  refine congrArg (x (ix2 s d) + ·) (congrArg (· + bo (ix2 0 d)) (Finset.sum_congr rfl fun l _ => congrArg (· * wo (ix2 l d)) ?_))
  have hl := l.isLt
  by_cases c0 : (l : ℕ) < 128
  · rw [dif_pos c0, h0]; exact piece_congr _ _ r q k v s (by omega) (show (l : ℕ) = l % 128 by omega)
  rw [dif_neg c0]
  by_cases c1 : (l : ℕ) - 128 < 128
  · rw [dif_pos c1, h1]; exact piece_congr _ _ r q k v s (by omega) (show (l : ℕ) - 128 = l % 128 by omega)
  rw [dif_neg c1]
  by_cases c2 : (l : ℕ) - 128 - 128 < 128
  · rw [dif_pos c2, h2]; exact piece_congr _ _ r q k v s (by omega) (show (l : ℕ) - 128 - 128 = l % 128 by omega)
  rw [dif_neg c2]
  by_cases c3 : (l : ℕ) - 128 - 128 - 128 < 128
  · rw [dif_pos c3, h3]; exact piece_congr _ _ r q k v s (by omega) (show (l : ℕ) - 128 - 128 - 128 = l % 128 by omega)
  rw [dif_neg c3]
  by_cases c4 : (l : ℕ) - 128 - 128 - 128 - 128 < 128
  · rw [dif_pos c4, h4]; exact piece_congr _ _ r q k v s (by omega) (show (l : ℕ) - 128 - 128 - 128 - 128 = l % 128 by omega)
  rw [dif_neg c4]
  by_cases c5 : (l : ℕ) - 128 - 128 - 128 - 128 - 128 < 128
  · rw [dif_pos c5, h5]; exact piece_congr _ _ r q k v s (by omega) (show (l : ℕ) - 128 - 128 - 128 - 128 - 128 = l % 128 by omega)
  rw [dif_neg c5]
  by_cases c6 : (l : ℕ) - 128 - 128 - 128 - 128 - 128 - 128 < 128
  · rw [dif_pos c6]
    exact Eq.trans (b := piece 768 (by decide) r q k v s ⟨_, c6⟩) rfl
      (piece_congr _ _ r q k v s (by omega) (show (l : ℕ) - 128 - 128 - 128 - 128 - 128 - 128 = l % 128 by omega))
  rw [dif_neg c6]
  exact Eq.trans (b := piece 896 (by decide) r q k v s ⟨(l : ℕ) - 128 - 128 - 128 - 128 - 128 - 128 - 128, by omega⟩) rfl
    (piece_congr _ _ r q k v s (by omega) (show (l : ℕ) - 128 - 128 - 128 - 128 - 128 - 128 - 128 = l % 128 by omega))

theorem norm_at (x q : FVec Ideal S2048x1024 .f32) (k v : FVec Ideal S768x1024 .f32) (r : EReal)
    (p0 p1 p2 p3 p4 p5 : FVec Ideal S2048x128 .f32) (v122 v130 v131) (wo : FVec Ideal S1024x1024 .f32) (bo : FVec Ideal S1x1024 .f32)
    (g b : FVec Ideal S1x1024 .f32) (s : Fin 2048) (d : Fin 1024) :
    k2_pay1 (F := Ideal) (k2_pay25 (F := Ideal) x q k v r p0 p1 p2 p3 p4 p5 v122 v130 v131 wo bo)
        (k2_pay26 (F := Ideal) x q k v r p0 p1 p2 p3 p4 p5 v122 v130 v131 wo bo) g b (ix2 s d)
      = Model.norm (fun d => k2_pay23 (F := Ideal) x q k v r p0 p1 p2 p3 p4 p5 v122 v130 v131 wo bo (ix2 s d)) d * g (ix2 0 d) + b (ix2 0 d) := by
  pointwise [k2_pay1, k2_pay25, k2_pay26, k2_pay24]
  rfl

/-- The result the fused body writes. -/
theorem fuseOut_at (x : FVec Ideal S2048x1024 .f32) (kv : FVec Ideal S768x1024 .f32) (wq : FVec Ideal S1024x1024 .f32) (bq : FVec Ideal S1x1024 .f32)
    (wk : FVec Ideal S1024x1024 .f32) (bk : FVec Ideal S1x1024 .f32) (wv : FVec Ideal S1024x1024 .f32) (bv : FVec Ideal S1x1024 .f32)
    (wo : FVec Ideal S1024x1024 .f32) (bo g b : FVec Ideal S1x1024 .f32) (s : Fin 2048) (d : Fin 1024) :
    fuseOut (F := Ideal) x kv wq bq wk bk wv bv wo bo g b (ix2 s d)
      = Model.norm (Model.resid (fun s k => x (ix2 s k)) (fun t k => kv (ix2 t k)) (fun k d => wq (ix2 k d)) (fun d => bq (ix2 0 d))
          (fun k d => wk (ix2 k d)) (fun d => bk (ix2 0 d)) (fun k d => wv (ix2 k d)) (fun d => bv (ix2 0 d))
          (fun k d => wo (ix2 k d)) (fun d => bo (ix2 0 d)) s) d * g (ix2 0 d) + b (ix2 0 d) := by
  unfold fuseOut fuseTail
  rw [norm_at]
  refine congrArg (fun v : Fin 1024 → EReal => Model.norm v d * _ + _) (funext fun d => ?_)
  rw [resid_at _ _ _ _ _ _ _ _ _ _ _ _ _ s d (piece0 x kv wq wk wv bq bk bv s) (piece1 _ _ _ _ s) (piece2 _ _ _ _ s) (piece3 _ _ _ _ s)
    (piece4 _ _ _ _ s) (piece5 _ _ _ _ s)]
  unfold Model.resid
  have hx : k2_pay2 (F := Ideal) x (ix2 s d) = x (ix2 s d) := by pointwise [k2_pay2]
  rw [hx]
  refine congrArg (x (ix2 s d) + ·) ?_
  unfold affine
  refine congrArg (· + bo (ix2 0 d)) (Finset.sum_congr rfl fun l _ => congrArg (· * wo (ix2 l d)) ?_)
  unfold piece Model.heads Model.logit
  simp only [q_at, k_at, v_at, recip128, Model.mul_recip _ Model.s128]
  have hl : (⟨(l : ℕ) / 128 * 128 + l % 128, by omega⟩ : Fin 1024) = l := Fin.ext (by show (l : ℕ) / 128 * 128 + l % 128 = l; omega)
  simp only [hl]
  rfl

end Cert.KernelIdeal.Own
-- ==== Proof.KernelIdeal.Blocks.lean ====
/-
  The three regions' output arrays, entry by entry, over the arrays the regions read.
-/
module

public import proofs.«01_k».proof.Proof.KernelIdeal.Regs
public import proofs.«01_k».proof.Proof.KernelIdeal.Query
public import proofs.«01_k».proof.Proof.KernelIdeal.Fuse
public import Idealize.ShloMosaic.Lib.Pipeline.ArrRel
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.Pipeline Idealize.ShloMosaic.TcCoe Idealize.ShloMosaic.Tactic

variable (V : Dev nD → Valuation τ sig (Elt Ideal))

/-! ## The queries -/

/-- Where the query region's windows sit. -/
theorem idx0 : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] :=
  (by decide +kernel : ∀ t : Fin grid0.N, _)

theorem points0 : cfg0.N = 3 := by decide

/-- The retriever of a point. -/
abbrev ret (t : Fin cfg0.N) : Fin 3 := ⟨t.val, points0 ▸ t.isLt⟩

theorem rd0_0 (c : Dev nD) (t : Fin cfg0.N) (s : Fin 2048) (k : Fin 1024) :
    in0_0 V c t (ix2 s k) = (V c (Proc.devRef .tc main_v0) : FVec Ideal S2048x1024 .f32) (ix2 s k) := by
  blk_ext [in0_0, idx0 t]
theorem rd0_1 (c : Dev nD) (t : Fin cfg0.N) (k d : Fin 1024) :
    in0_1 V c t (ix3 0 k d) = (V c (Proc.devRef .tc main_arg2) : FVec Ideal S3x1024x1024 .f32) (ix3 (ret t) k d) := by
  blk_ext [in0_1, idx0 t]
theorem rd0_2 (c : Dev nD) (t : Fin cfg0.N) (d : Fin 1024) :
    in0_2 V c t (ix3 0 0 d) = (V c (Proc.devRef .tc main_v1) : FVec Ideal S3x1x1024 .f32) (ix3 (ret t) 0 d) := by
  blk_ext [in0_2, idx0 t]
theorem rd0_3 (c : Dev nD) (t : Fin cfg0.N) (k d : Fin 1024) :
    in0_3 V c t (ix3 0 k d) = (V c (Proc.devRef .tc main_arg4) : FVec Ideal S3x1024x1024 .f32) (ix3 (ret t) k d) := by
  blk_ext [in0_3, idx0 t]
theorem rd0_4 (c : Dev nD) (t : Fin cfg0.N) (d : Fin 1024) :
    in0_4 V c t (ix3 0 0 d) = (V c (Proc.devRef .tc main_v2) : FVec Ideal S3x1x1024 .f32) (ix3 (ret t) 0 d) := by
  blk_ext [in0_4, idx0 t]
theorem rd0_5 (c : Dev nD) (t : Fin cfg0.N) (d : Fin 1024) :
    in0_5 V c t (ix3 0 0 d) = (V c (Proc.devRef .tc main_v3) : FVec Ideal S3x1x1024 .f32) (ix3 (ret t) 0 d) := by
  blk_ext [in0_5, idx0 t]
theorem rd0_6 (c : Dev nD) (t : Fin cfg0.N) (d : Fin 1024) :
    in0_6 V c t (ix3 0 0 d) = (V c (Proc.devRef .tc main_v4) : FVec Ideal S3x1x1024 .f32) (ix3 (ret t) 0 d) := by
  blk_ext [in0_6, idx0 t]
theorem rd0_7 (c : Dev nD) (t : Fin cfg0.N) (k d : Fin 1024) :
    in0_7 V c t (ix3 0 k d) = (V c (Proc.devRef .tc main_arg8) : FVec Ideal S3x1024x1024 .f32) (ix3 (ret t) k d) := by
  blk_ext [in0_7, idx0 t]
theorem rd0_8 (c : Dev nD) (t : Fin cfg0.N) (d : Fin 1024) :
    in0_8 V c t (ix3 0 0 d) = (V c (Proc.devRef .tc main_v5) : FVec Ideal S3x1x1024 .f32) (ix3 (ret t) 0 d) := by
  blk_ext [in0_8, idx0 t]

/-- Retriever `r`'s query over the arrays the region reads. -/
def queryOf (c : Dev nD) (r : Fin 3) : Fin 1024 → EReal :=
  Model.query (Model.poolRows (Model.feat (fun s k => (V c (Proc.devRef .tc main_v0) : FVec Ideal S2048x1024 .f32) (ix2 s k))
      (fun k d => (V c (Proc.devRef .tc main_arg2) : FVec Ideal S3x1024x1024 .f32) (ix3 r k d)) (fun d => (V c (Proc.devRef .tc main_v1) : FVec Ideal S3x1x1024 .f32) (ix3 r 0 d))
      (fun k d => (V c (Proc.devRef .tc main_arg4) : FVec Ideal S3x1024x1024 .f32) (ix3 r k d)) (fun d => (V c (Proc.devRef .tc main_v2) : FVec Ideal S3x1x1024 .f32) (ix3 r 0 d))))
    (fun d => (V c (Proc.devRef .tc main_v3) : FVec Ideal S3x1x1024 .f32) (ix3 r 0 d)) (fun d => (V c (Proc.devRef .tc main_v4) : FVec Ideal S3x1x1024 .f32) (ix3 r 0 d))
    (fun k d => (V c (Proc.devRef .tc main_arg8) : FVec Ideal S3x1024x1024 .f32) (ix3 r k d)) (fun d => (V c (Proc.devRef .tc main_v5) : FVec Ideal S3x1x1024 .f32) (ix3 r 0 d))

theorem left0_at (c : Dev nD) (t : Fin cfg0.N) (X : FVec Ideal S1x1x1024 .f32) (h : left0 V c t X) (d : Fin 1024) :
    X (ix3 0 0 d) = queryOf V c (ret t) d := by
  rw [show X = _ from h, queryOut_at]
  simp only [rd0_0, rd0_1, rd0_2, rd0_3, rd0_4, rd0_5, rd0_6, rd0_7, rd0_8]
  rfl

/-- The query array. -/
def queries (c : Dev nD) : FVec Ideal S3x1x1024 .f32 := fun i => queryOf V c (i 0) (i 2)

theorem queries_at (c : Dev nD) (r : Fin 3) (d : Fin 1024) : queries V c (ix3 r 0 d) = queryOf V c r d := rfl

theorem arr0 (c : Dev nD) (G : Buf (Elt Ideal) ((c : Thread nD τ).loc main_v6)) (h : (rdat0 V c).ArrAt 9 cfg0.N G) :
    G = queries V c := by
  obtain ⟨X, hX, hA⟩ := RDat.ArrAt.exists_exact h
  have e := hA (Function.update (fun _ _ _ => Classical.arbitrary _) 9 X) fun u _ _ => by rw [Function.update_self]
  rw [e]
  refine ((rdat0 V c).withAfter _).arrAt_eq_of_covers 9 (queries V c) (by decide +kernel) fun t hf y => ?_
  obtain ⟨Y, hY, hl⟩ := hX t t.isLt hf
  have hy := left0_at V c t (X t) hl
  blk_simp
  rw [Pipeline.RDat.withAfter_after, Function.update_self]
  have e1 : ∀ y : S1x1x1024.Idx, y = ix3 0 0 (y 2) := by
    intro y; blk_ext []
  have e2 : ((cfg0.win 9).blk t).view.emb y = (ix3 (ret t) 0 (y 2) : S3x1x1024.Idx) := by blk_ext [idx0 t]
  refine ((congrArg (X t) (e1 y)).trans ((hy (y 2)).trans (queries_at V c (ret t) (y 2)).symm)).trans ?_
  exact congrArg (queries V c) e2.symm

/-! ## The scores -/

theorem idx1 : ∀ t : Fin cfg1.N, win1_0.index t = ![0, 0] ∧ win1_1.index t = ![t.val, 0] ∧ win1_2.index t = ![0, t.val] :=
  (by decide +kernel : ∀ t : Fin grid1.N, _)

/-- How much of the last block of memory rows lies in the array. -/
theorem rows1 : ∀ t : Fin cfg1.N, (cfg1.win 1).xsize (cfg1.grid.coords t) = ![min 2048 (100000 - t.val * 2048), 1024] :=
  (by decide +kernel : ∀ t : Fin grid1.N, _)

theorem coord1 : ∀ t : Fin cfg1.N, ((grid1.coords t) 0).val = t.val := (by decide +kernel : ∀ t : Fin grid1.N, _)

theorem points1 : cfg1.N = 49 := by decide

theorem rd1_0 (c : Dev nD) (t : Fin cfg1.N) (r : Fin 3) (k : Fin 1024) :
    in1_0 V c t (ix2 r k) = (V c (Proc.devRef .tc main_v7) : FVec Ideal S3x1024 .f32) (ix2 r k) := by
  blk_ext [in1_0, idx1 t]

theorem rd1_1 (c : Dev nD) (t : Fin cfg1.N) (d) (k : Fin 1024) (p : Fin 2048) (h : t.val * 2048 + p.val < 100000) :
    in1_1 V c t d (ix2 p k) = (V c (Proc.devRef .tc main_arg1) : FVec Ideal S100000x1024 .f32) (ix2 ⟨t.val * 2048 + p.val, h⟩ k) := by
  have hx : ∀ a, ((ix2 p k : S2048x1024.Idx) a).val < (cfg1.win 1).xsize (cfg1.grid.coords t) a := by
    rw [rows1 t]
    intro a
    fin_cases a
    · show p.val < min 2048 (100000 - t.val * 2048)
      omega
    · exact k.isLt
  have hm : (cfg1.win 1).moved (cfg1.grid.coords t) (ix2 p k : S2048x1024.Idx) = true := ((cfg1.win 1).moved_iff _ _).2 hx
  unfold in1_1 Window.fill
  rw [dif_pos hm]
  blk_ext [idx1 t]

/-- A column of a score block that is a row of memory. -/
theorem score_at (i : grid1.Coords) (q : FVec Ideal S3x1024 .f32) (mem : FVec Ideal S2048x1024 .f32) (r : Fin 3) (p : Fin 2048)
    (hi : (i 0).val < 49) (h : (i 0).val * 2048 + p.val < 100000) :
    (k1_pay1 (F := Ideal) i q mem : FVec Ideal S3x2048 .f32) (ix2 r p) = ∑ k, q (ix2 r k) * mem (ix2 p k) := by
  have hc : IntOp.cmpi CmpIPredicate.slt (IntOp.addi (Scalar.muli (BitVec.ofNat 32 (i 0).val) 2048#32) (BitVec.ofNat 32 p.val)) 100000#32 = 1#1 := by
    have e : IntOp.addi (Scalar.muli (BitVec.ofNat 32 (i 0).val) 2048#32) (BitVec.ofNat 32 p.val)
        = BitVec.ofNat 32 ((i 0).val * 2048 + p.val) := by
      apply BitVec.eq_of_toNat_eq
      simp [IntOp.addi, Scalar.muli, IntOp.muli]
    rw [e]
    generalize (i 0).val * 2048 + p.val = n at h
    have hn : (BitVec.ofNat 32 n).toInt = n := by
      rw [BitVec.toInt_eq_toNat_of_lt] <;> simp <;> omega
    simp only [IntOp.cmpi, BitVec.slt, hn]
    simp [h]
  pointwise [k1_pay1]
  rw [hc]
  rfl

/-- The product of query row `r` and memory row `j`. -/
def score (q : FVec Ideal S3x1024 .f32) (mem : FVec Ideal S100000x1024 .f32) (r : Fin 3) (j : Fin 100000) : EReal :=
  ∑ k, q (ix2 r k) * mem (ix2 j k)

theorem left1_at (c : Dev nD) (t : Fin cfg1.N) (X : FVec Ideal S3x2048 .f32) (h : left1 V c t X) (r : Fin 3) (p : Fin 2048)
    (hi : t.val * 2048 + p.val < 100000) :
    X (ix2 r p) = score (V c (Proc.devRef .tc main_v7)) (V c (Proc.devRef .tc main_arg1)) r ⟨t.val * 2048 + p.val, hi⟩ := by
  obtain ⟨d, rfl⟩ := h
  have b1 : t.val < 49 := points1 ▸ t.isLt
  refine (score_at (grid1.coords t) _ _ r p (coord1 t ▸ b1) (by rw [coord1 t]; exact hi)).trans ?_
  refine Finset.sum_congr rfl fun k _ => ?_
  rw [rd1_0, rd1_1 V c t d k p hi]

/-- `v` is the score at index `i`, if `i` lies in one of the first 100000 columns. -/
def Scored (q : FVec Ideal S3x1024 .f32) (mem : FVec Ideal S100000x1024 .f32) (i : S3x100352.Idx) (v : EReal) : Prop :=
  ∀ hi : (i 1).val < 100000, v = score q mem (i 0) ⟨(i 1).val, hi⟩

/-- The first 100000 columns of the score array. -/
theorem arr1 (c : Dev nD) (G : Buf (Elt Ideal) ((c : Thread nD τ).loc main_v8)) (h : (rdat1 V c).ArrAt 2 cfg1.N G) (r : Fin 3) (j : Fin 100000) :
    (G : FVec Ideal S3x100352 .f32) (ix2 r ⟨j.val, by omega⟩)
      = score (V c (Proc.devRef .tc main_v7)) (V c (Proc.devRef .tc main_arg1)) r j := by
  obtain ⟨X, hX, hA⟩ := RDat.ArrAt.exists_exact h
  have e := hA (Function.update (fun _ _ _ => Classical.arbitrary _) 2 X) fun u _ _ => by rw [Function.update_self]
  rw [e]
  have key := ((rdat1 V c).withAfter (Function.update (fun _ _ _ => Classical.arbitrary _) 2 X)).arrAt_forall_of_covers 2
    (Scored (V c (Proc.devRef .tc main_v7)) (V c (Proc.devRef .tc main_arg1)))
    (by decide +kernel) (fun t hf y => ?_) (ix2 r ⟨j.val, by omega⟩ : S3x100352.Idx)
  · exact key j.isLt
  obtain ⟨Y, hY, hl⟩ := hX t t.isLt hf
  blk_simp
  rw [Pipeline.RDat.withAfter_after, Function.update_self]
  have e1 : ∀ y : S3x2048.Idx, y = ix2 (y 0) (y 1) := by
    intro y; blk_ext []
  have b1 : t.val < 49 := points1 ▸ t.isLt
  have hl : left1 V c t (X t) := hl
  have b2 : ((y 1 : ℕ)) < 2048 := (y 1).isLt
  have b3 : t.val * 2048 + (y 1 : ℕ) < 100352 := by omega
  have e2 : ((cfg1.win 2).blk t).view.emb y = (ix2 (y 0) ⟨t.val * 2048 + (y 1 : ℕ), b3⟩ : S3x100352.Idx) := by blk_ext [idx1 t]
  rw [e2]
  intro hi
  exact (congrArg (X t) (e1 y)).trans (left1_at V c t (X t) hl (y 0) (y 1) hi)

/-! ## The fused rows -/

theorem idx2 : ∀ t : Fin cfg2.N, win2_0.index t = ![0, 0]
    ∧ win2_1.index t = ![0, 0]
    ∧ win2_2.index t = ![0, 0]
    ∧ win2_3.index t = ![0, 0]
    ∧ win2_4.index t = ![0, 0]
    ∧ win2_5.index t = ![0, 0]
    ∧ win2_6.index t = ![0, 0]
    ∧ win2_7.index t = ![0, 0]
    ∧ win2_8.index t = ![0, 0]
    ∧ win2_9.index t = ![0, 0]
    ∧ win2_10.index t = ![0, 0]
    ∧ win2_11.index t = ![0, 0]
    ∧ win2_12.index t = ![0, 0] :=
  (by decide +kernel : ∀ t : Fin grid2.N, _)

theorem rd2_0 (c : Dev nD) (t : Fin cfg2.N) : in2_0 V c t = (V c (Proc.devRef .tc main_v0) : FVec Ideal S2048x1024 .f32) := by
  blk_ext! [in2_0, idx2 t]
theorem rd2_1 (c : Dev nD) (t : Fin cfg2.N) : in2_1 V c t = (V c (Proc.devRef .tc main_v17) : FVec Ideal S768x1024 .f32) := by
  blk_ext! [in2_1, idx2 t]
theorem rd2_2 (c : Dev nD) (t : Fin cfg2.N) : in2_2 V c t = (V c (Proc.devRef .tc main_arg14) : FVec Ideal S1024x1024 .f32) := by
  blk_ext! [in2_2, idx2 t]
theorem rd2_3 (c : Dev nD) (t : Fin cfg2.N) : in2_3 V c t = (V c (Proc.devRef .tc main_v18) : FVec Ideal S1x1024 .f32) := by
  blk_ext! [in2_3, idx2 t]
theorem rd2_4 (c : Dev nD) (t : Fin cfg2.N) : in2_4 V c t = (V c (Proc.devRef .tc main_arg16) : FVec Ideal S1024x1024 .f32) := by
  blk_ext! [in2_4, idx2 t]
theorem rd2_5 (c : Dev nD) (t : Fin cfg2.N) : in2_5 V c t = (V c (Proc.devRef .tc main_v19) : FVec Ideal S1x1024 .f32) := by
  blk_ext! [in2_5, idx2 t]
theorem rd2_6 (c : Dev nD) (t : Fin cfg2.N) : in2_6 V c t = (V c (Proc.devRef .tc main_arg18) : FVec Ideal S1024x1024 .f32) := by
  blk_ext! [in2_6, idx2 t]
theorem rd2_7 (c : Dev nD) (t : Fin cfg2.N) : in2_7 V c t = (V c (Proc.devRef .tc main_v20) : FVec Ideal S1x1024 .f32) := by
  blk_ext! [in2_7, idx2 t]
theorem rd2_8 (c : Dev nD) (t : Fin cfg2.N) : in2_8 V c t = (V c (Proc.devRef .tc main_arg20) : FVec Ideal S1024x1024 .f32) := by
  blk_ext! [in2_8, idx2 t]
theorem rd2_9 (c : Dev nD) (t : Fin cfg2.N) : in2_9 V c t = (V c (Proc.devRef .tc main_v21) : FVec Ideal S1x1024 .f32) := by
  blk_ext! [in2_9, idx2 t]
theorem rd2_10 (c : Dev nD) (t : Fin cfg2.N) : in2_10 V c t = (V c (Proc.devRef .tc main_v22) : FVec Ideal S1x1024 .f32) := by
  blk_ext! [in2_10, idx2 t]
theorem rd2_11 (c : Dev nD) (t : Fin cfg2.N) : in2_11 V c t = (V c (Proc.devRef .tc main_v23) : FVec Ideal S1x1024 .f32) := by
  blk_ext! [in2_11, idx2 t]

/-- The residual stream over the arrays the region reads. -/
def residOf (c : Dev nD) : Fin 2048 → Fin 1024 → EReal :=
  Model.resid (fun s k => (V c (Proc.devRef .tc main_v0) : FVec Ideal S2048x1024 .f32) (ix2 s k))
    (fun t k => (V c (Proc.devRef .tc main_v17) : FVec Ideal S768x1024 .f32) (ix2 t k))
    (fun k d => (V c (Proc.devRef .tc main_arg14) : FVec Ideal S1024x1024 .f32) (ix2 k d)) (fun d => (V c (Proc.devRef .tc main_v18) : FVec Ideal S1x1024 .f32) (ix2 0 d))
    (fun k d => (V c (Proc.devRef .tc main_arg16) : FVec Ideal S1024x1024 .f32) (ix2 k d)) (fun d => (V c (Proc.devRef .tc main_v19) : FVec Ideal S1x1024 .f32) (ix2 0 d))
    (fun k d => (V c (Proc.devRef .tc main_arg18) : FVec Ideal S1024x1024 .f32) (ix2 k d)) (fun d => (V c (Proc.devRef .tc main_v20) : FVec Ideal S1x1024 .f32) (ix2 0 d))
    (fun k d => (V c (Proc.devRef .tc main_arg20) : FVec Ideal S1024x1024 .f32) (ix2 k d)) (fun d => (V c (Proc.devRef .tc main_v21) : FVec Ideal S1x1024 .f32) (ix2 0 d))

/-- The fused array. -/
theorem arr2 (c : Dev nD) (G : Buf (Elt Ideal) ((c : Thread nD τ).loc main_v24)) (h : (rdat2 V c).ArrAt 12 cfg2.N G) (s : Fin 2048) (d : Fin 1024) :
    (G : FVec Ideal S2048x1024 .f32) (ix2 s d)
      = Model.norm (residOf V c s) d * (V c (Proc.devRef .tc main_v22) : FVec Ideal S1x1024 .f32) (ix2 0 d) + (V c (Proc.devRef .tc main_v23) : FVec Ideal S1x1024 .f32) (ix2 0 d) := by
  have hw : (cfg2.win 12).WholeAt t2_0 := by decide +kernel
  obtain ⟨X, ⟨Y, hY, hl⟩, e⟩ := RDat.ArrAt.emb_eq_of_wholeAt h hw
  have e' := e (ix2 s d : S2048x1024.Idx)
  blk_simp at e'
  have hX : left2 V c t2_0 X := hl
  refine Eq.trans e' ?_
  refine (congrFun hX (ix2 s d)).trans ?_
  rw [fuseOut_at, rd2_0, rd2_1, rd2_2, rd2_3, rd2_4, rd2_5, rd2_6, rd2_7, rd2_8, rd2_9, rd2_10, rd2_11]
  rfl

end Cert.KernelIdeal.Own
-- ==== Proof.KernelIdeal.Value.lean ====
/-
  The kernel's result is the reference's: the host stretches read at an index.
-/
module

public import proofs.«01_k».proof.Proof.ReferenceIdeal.Rows
public import proofs.«01_k».proof.Proof.KernelIdeal.Run
public import proofs.«01_k».proof.Proof.KernelIdeal.Blocks

@[expose] public section

set_option maxRecDepth 16384

noncomputable section

namespace Cert.KernelIdeal.Own

open Cert.KernelIdeal Cert.KernelIdeal.Gen
open Idealize.ShloMosaic Idealize.ShloMosaic.Pipeline Idealize.ShloMosaic.TcCoe Idealize.ShloMosaic.Tactic

variable (m : (ℓ : Loc nD τ sig) → Buf (Elt Ideal) ℓ) (outs : Outs (F := Ideal)) (c : Dev nD)
  {W : Valuation Cert.ReferenceIdeal.τ Cert.ReferenceIdeal.sig (Elt Ideal)}

/-- The reference's arguments are the kernel's. -/
structure Agree (W : Valuation Cert.ReferenceIdeal.τ Cert.ReferenceIdeal.sig (Elt Ideal)) : Prop where
  h0 : Cert.ReferenceIdeal.Own.a0 W = (m ((c : Thread nD τ).loc main_arg0) : FVec Ideal S1x2048x1024 .f32)
  h1 : Cert.ReferenceIdeal.Own.a1 W = (m ((c : Thread nD τ).loc main_arg1) : FVec Ideal S100000x1024 .f32)
  h2 : Cert.ReferenceIdeal.Own.a2 W = (m ((c : Thread nD τ).loc main_arg2) : FVec Ideal S3x1024x1024 .f32)
  h3 : Cert.ReferenceIdeal.Own.a3 W = (m ((c : Thread nD τ).loc main_arg3) : FVec Ideal S3x1024 .f32)
  h4 : Cert.ReferenceIdeal.Own.a4 W = (m ((c : Thread nD τ).loc main_arg4) : FVec Ideal S3x1024x1024 .f32)
  h5 : Cert.ReferenceIdeal.Own.a5 W = (m ((c : Thread nD τ).loc main_arg5) : FVec Ideal S3x1024 .f32)
  h6 : Cert.ReferenceIdeal.Own.a6 W = (m ((c : Thread nD τ).loc main_arg6) : FVec Ideal S3x1024 .f32)
  h7 : Cert.ReferenceIdeal.Own.a7 W = (m ((c : Thread nD τ).loc main_arg7) : FVec Ideal S3x1024 .f32)
  h8 : Cert.ReferenceIdeal.Own.a8 W = (m ((c : Thread nD τ).loc main_arg8) : FVec Ideal S3x1024x1024 .f32)
  h9 : Cert.ReferenceIdeal.Own.a9 W = (m ((c : Thread nD τ).loc main_arg9) : FVec Ideal S3x1024 .f32)
  h14 : Cert.ReferenceIdeal.Own.a14 W = (m ((c : Thread nD τ).loc main_arg14) : FVec Ideal S1024x1024 .f32)
  h16 : Cert.ReferenceIdeal.Own.a16 W = (m ((c : Thread nD τ).loc main_arg16) : FVec Ideal S1024x1024 .f32)
  h18 : Cert.ReferenceIdeal.Own.a18 W = (m ((c : Thread nD τ).loc main_arg18) : FVec Ideal S1024x1024 .f32)
  h20 : Cert.ReferenceIdeal.Own.a20 W = (m ((c : Thread nD τ).loc main_arg20) : FVec Ideal S1024x1024 .f32)
  h15 : Cert.ReferenceIdeal.Own.a15 W = (m ((c : Thread nD τ).loc main_arg15) : FVec Ideal S1024 .f32)
  h17 : Cert.ReferenceIdeal.Own.a17 W = (m ((c : Thread nD τ).loc main_arg17) : FVec Ideal S1024 .f32)
  h19 : Cert.ReferenceIdeal.Own.a19 W = (m ((c : Thread nD τ).loc main_arg19) : FVec Ideal S1024 .f32)
  h21 : Cert.ReferenceIdeal.Own.a21 W = (m ((c : Thread nD τ).loc main_arg21) : FVec Ideal S1024 .f32)
  h22 : Cert.ReferenceIdeal.Own.a22 W = (m ((c : Thread nD τ).loc main_arg22) : FVec Ideal S1024 .f32)
  h23 : Cert.ReferenceIdeal.Own.a23 W = (m ((c : Thread nD τ).loc main_arg23) : FVec Ideal S1024 .f32)

theorem flat_at (x : FVec Ideal S1x2048x1024 .f32) (s : Fin 2048) (k : Fin 1024) :
    (shapeCast S2048x1024 x shapeCasts_S1x2048x1024_S2048x1024 : FVec Ideal S2048x1024 .f32) (ix2 s k) = x (ix3 0 s k) := by
  pointwise
  all_goals rfl

theorem spread_at (x : FVec Ideal S3x1024 .f32) (r : Fin 3) (d : Fin 1024) :
    (shapeCast S3x1x1024 x shapeCasts_S3x1024_S3x1x1024 : FVec Ideal S3x1x1024 .f32) (ix3 r 0 d) = x (ix2 r d) := by
  pointwise
  all_goals rfl

theorem narrow_at (x : FVec Ideal S3x1x1024 .f32) (r : Fin 3) (d : Fin 1024) :
    (shapeCast S3x1024 x shapeCasts_S3x1x1024_S3x1024 : FVec Ideal S3x1024 .f32) (ix2 r d) = x (ix3 r 0 d) := by
  pointwise
  all_goals rfl

theorem line_at (x : FVec Ideal S1024 .f32) (d : Fin 1024) :
    (shapeCast S1x1024 x shapeCasts_S1024_S1x1024 : FVec Ideal S1x1024 .f32) (ix2 0 d) = x (ix1 d) := by
  pointwise
  all_goals rfl

theorem front_at (x : FVec Ideal S3x100352 .f32) (r : Fin 3) (n : Fin 100000) :
    (extractStridedSlice S3x100000 ![0, 0] x slices_S3x100352_S3x100000_0_0 : FVec Ideal S3x100000 .f32) (ix2 r n) = x (ix2 r ⟨n.val, by omega⟩) := by
  pointwise
  all_goals rfl

theorem whole_at (x : FVec Ideal S2048x1024 .f32) (s : Fin 2048) (d : Fin 1024) :
    (broadcastInDim S1x2048x1024 ![1, 2] bcast_S2048x1024_S1x2048x1024_1_2 x : FVec Ideal S1x2048x1024 .f32) (ix3 0 s d) = x (ix2 s d) := by
  pointwise
  all_goals rfl

theorem wrap_at (x : IVec S3x256 32) (t : Fin 768) :
    (broadcastInDim S768x1 ![0] bcast_S768_S768x1_0 (select (cmpi .slt (shapeCast S768 x shapeCasts_S3x256_S768) (broadcastInDim S768 ![] bcast_S_S768 (constantI S_ 32 0#32)))
        (addi (shapeCast S768 x shapeCasts_S3x256_S768) (broadcastInDim S768 ![] bcast_S_S768 (constantI S_ 32 100000#32))) (shapeCast S768 x shapeCasts_S3x256_S768)) : IVec S768x1 32) (ix2 t 0)
      = Scalar.select (IntOp.cmpi .slt (x (ix2 ⟨t / 256, by omega⟩ ⟨t % 256, by omega⟩)) 0#32) (IntOp.addi (x (ix2 ⟨t / 256, by omega⟩ ⟨t % 256, by omega⟩)) 100000#32)
          (x (ix2 ⟨t / 256, by omega⟩ ⟨t % 256, by omega⟩)) := by
  pointwise
  all_goals rfl

theorem v0_at (s : Fin 2048) (k : Fin 1024) : (V1 m c (Proc.devRef .tc main_v0) : FVec Ideal S2048x1024 .f32) (ix2 s k) = (m ((c : Thread nD τ).loc main_arg0) : FVec Ideal S1x2048x1024 .f32) (ix3 0 s k) := by
  have e : (V1 m c (Proc.devRef .tc main_v0) : FVec Ideal S2048x1024 .f32) = shapeCast S2048x1024 (m ((c : Thread nD τ).loc main_arg0) : FVec Ideal S1x2048x1024 .f32) shapeCasts_S1x2048x1024_S2048x1024 := by
    after_results
    all_goals rfl
  rw [e]
  exact flat_at _ s k

theorem v1_at (r : Fin 3) (d : Fin 1024) : (V1 m c (Proc.devRef .tc main_v1) : FVec Ideal S3x1x1024 .f32) (ix3 r 0 d) = (m ((c : Thread nD τ).loc main_arg3) : FVec Ideal S3x1024 .f32) (ix2 r d) := by
  have e : (V1 m c (Proc.devRef .tc main_v1) : FVec Ideal S3x1x1024 .f32) = shapeCast S3x1x1024 (m ((c : Thread nD τ).loc main_arg3) : FVec Ideal S3x1024 .f32) shapeCasts_S3x1024_S3x1x1024 := by
    after_results
    all_goals rfl
  rw [e]
  exact spread_at _ r d

theorem v2_at (r : Fin 3) (d : Fin 1024) : (V1 m c (Proc.devRef .tc main_v2) : FVec Ideal S3x1x1024 .f32) (ix3 r 0 d) = (m ((c : Thread nD τ).loc main_arg5) : FVec Ideal S3x1024 .f32) (ix2 r d) := by
  have e : (V1 m c (Proc.devRef .tc main_v2) : FVec Ideal S3x1x1024 .f32) = shapeCast S3x1x1024 (m ((c : Thread nD τ).loc main_arg5) : FVec Ideal S3x1024 .f32) shapeCasts_S3x1024_S3x1x1024 := by
    after_results
    all_goals rfl
  rw [e]
  exact spread_at _ r d

theorem v3_at (r : Fin 3) (d : Fin 1024) : (V1 m c (Proc.devRef .tc main_v3) : FVec Ideal S3x1x1024 .f32) (ix3 r 0 d) = (m ((c : Thread nD τ).loc main_arg6) : FVec Ideal S3x1024 .f32) (ix2 r d) := by
  have e : (V1 m c (Proc.devRef .tc main_v3) : FVec Ideal S3x1x1024 .f32) = shapeCast S3x1x1024 (m ((c : Thread nD τ).loc main_arg6) : FVec Ideal S3x1024 .f32) shapeCasts_S3x1024_S3x1x1024 := by
    after_results
    all_goals rfl
  rw [e]
  exact spread_at _ r d

theorem v4_at (r : Fin 3) (d : Fin 1024) : (V1 m c (Proc.devRef .tc main_v4) : FVec Ideal S3x1x1024 .f32) (ix3 r 0 d) = (m ((c : Thread nD τ).loc main_arg7) : FVec Ideal S3x1024 .f32) (ix2 r d) := by
  have e : (V1 m c (Proc.devRef .tc main_v4) : FVec Ideal S3x1x1024 .f32) = shapeCast S3x1x1024 (m ((c : Thread nD τ).loc main_arg7) : FVec Ideal S3x1024 .f32) shapeCasts_S3x1024_S3x1x1024 := by
    after_results
    all_goals rfl
  rw [e]
  exact spread_at _ r d

theorem v5_at (r : Fin 3) (d : Fin 1024) : (V1 m c (Proc.devRef .tc main_v5) : FVec Ideal S3x1x1024 .f32) (ix3 r 0 d) = (m ((c : Thread nD τ).loc main_arg9) : FVec Ideal S3x1024 .f32) (ix2 r d) := by
  have e : (V1 m c (Proc.devRef .tc main_v5) : FVec Ideal S3x1x1024 .f32) = shapeCast S3x1x1024 (m ((c : Thread nD τ).loc main_arg9) : FVec Ideal S3x1024 .f32) shapeCasts_S3x1024_S3x1x1024 := by
    after_results
    all_goals rfl
  rw [e]
  exact spread_at _ r d

theorem first_arg (r : Ref sig .tc) (h : r ∉ hostOps0_W) : V1 m c r = m ((c : Thread nD τ).loc r) := V1_of m c r h

theorem query_of (U : Valuation τ sig (Elt Ideal)) (h : Agree m c W) (r : Fin 3)
    (u0 : ∀ s k, (U (Proc.devRef .tc main_v0) : FVec Ideal S2048x1024 .f32) (ix2 s k) = (m ((c : Thread nD τ).loc main_arg0) : FVec Ideal S1x2048x1024 .f32) (ix3 0 s k))
    (u1 : ∀ d, (U (Proc.devRef .tc main_v1) : FVec Ideal S3x1x1024 .f32) (ix3 r 0 d) = (m ((c : Thread nD τ).loc main_arg3) : FVec Ideal S3x1024 .f32) (ix2 r d))
    (u2 : ∀ d, (U (Proc.devRef .tc main_v2) : FVec Ideal S3x1x1024 .f32) (ix3 r 0 d) = (m ((c : Thread nD τ).loc main_arg5) : FVec Ideal S3x1024 .f32) (ix2 r d))
    (u3 : ∀ d, (U (Proc.devRef .tc main_v3) : FVec Ideal S3x1x1024 .f32) (ix3 r 0 d) = (m ((c : Thread nD τ).loc main_arg6) : FVec Ideal S3x1024 .f32) (ix2 r d))
    (u4 : ∀ d, (U (Proc.devRef .tc main_v4) : FVec Ideal S3x1x1024 .f32) (ix3 r 0 d) = (m ((c : Thread nD τ).loc main_arg7) : FVec Ideal S3x1024 .f32) (ix2 r d))
    (u5 : ∀ d, (U (Proc.devRef .tc main_v5) : FVec Ideal S3x1x1024 .f32) (ix3 r 0 d) = (m ((c : Thread nD τ).loc main_arg9) : FVec Ideal S3x1024 .f32) (ix2 r d))
    (e2 : (U (Proc.devRef .tc main_arg2) : FVec Ideal S3x1024x1024 .f32) = (m ((c : Thread nD τ).loc main_arg2) : FVec Ideal S3x1024x1024 .f32))
    (e4 : (U (Proc.devRef .tc main_arg4) : FVec Ideal S3x1024x1024 .f32) = (m ((c : Thread nD τ).loc main_arg4) : FVec Ideal S3x1024x1024 .f32))
    (e8 : (U (Proc.devRef .tc main_arg8) : FVec Ideal S3x1024x1024 .f32) = (m ((c : Thread nD τ).loc main_arg8) : FVec Ideal S3x1024x1024 .f32)) :
    queryOf (fun _ => U) c r = Cert.ReferenceIdeal.Own.queryRow W r := by
  unfold queryOf Cert.ReferenceIdeal.Own.queryRow Cert.ReferenceIdeal.Own.feats
  simp only [u0, u1, u2, u3, u4, u5, e2, e4, e8, h.h0, h.h2, h.h3, h.h4, h.h5, h.h6, h.h7, h.h8, h.h9]

/-- The kernel's queries are the reference's. -/
theorem query_row (h : Agree m c W) (r : Fin 3) : queryOf (fun _ => V1 m c) c r = Cert.ReferenceIdeal.Own.queryRow W r :=
  query_of m c (V1 m c) h r (v0_at m c) (v1_at m c r) (v2_at m c r) (v3_at m c r) (v4_at m c r) (v5_at m c r)
    (first_arg m c main_arg2 (by decide)) (first_arg m c main_arg4 (by decide)) (first_arg m c main_arg8 (by decide))

theorem third_kept (r : Ref sig .tc) (h3 : r ∉ hostOps1_W) (h2 : r ∉ ([main_v6] : List (Ref sig .tc))) :
    V3 m outs c r = V1 m c r := (V3_of m outs c r h3).trans (V2_of m outs c r h2)

theorem fourth_kept (r : Ref sig .tc) (h4 : r ∉ ([main_v8] : List (Ref sig .tc))) (h3 : r ∉ hostOps1_W)
    (h2 : r ∉ ([main_v6] : List (Ref sig .tc))) : V4 m outs c r = V1 m c r :=
  (V4_of m outs c r h4).trans (third_kept m outs c r h3 h2)

theorem fifth_kept (r : Ref sig .tc) (h5 : r ∉ hostOps2_W) (h4 : r ∉ ([main_v8] : List (Ref sig .tc))) (h3 : r ∉ hostOps1_W)
    (h2 : r ∉ ([main_v6] : List (Ref sig .tc))) : V5 m outs c r = V1 m c r :=
  (V5_of m outs c r h5).trans (fourth_kept m outs c r h4 h3 h2)

theorem v7_at (r : Fin 3) (d : Fin 1024) :
    (V3 m outs c (Proc.devRef .tc main_v7) : FVec Ideal S3x1024 .f32) (ix2 r d) = (outs 2 main_v6 c : FVec Ideal S3x1x1024 .f32) (ix3 r 0 d) := by
  have e : (V3 m outs c (Proc.devRef .tc main_v7) : FVec Ideal S3x1024 .f32)
      = shapeCast S3x1024 (V2 m outs c (Proc.devRef .tc main_v6) : FVec Ideal S3x1x1024 .f32) shapeCasts_S3x1x1024_S3x1024 := by
    after_results
    all_goals rfl
  rw [e]
  refine (narrow_at _ r d).trans ?_
  exact congrFun (Function.update_self (Proc.devRef .tc main_v6) _ _ : V2 m outs c (Proc.devRef .tc main_v6) = outs 2 main_v6 c) _

/-- The kernel's scores are the reference's. -/
theorem score_row (h : Agree m c W) (hr : Reached m c outs) (r : Fin 3) (n : Fin 100000) :
    (outs 4 main_v8 c : FVec Ideal S3x100352 .f32) (ix2 r ⟨n.val, by omega⟩) = Cert.ReferenceIdeal.Own.scores W r n := by
  have e1 : V3 m outs c main_arg1 = m ((c : Thread nD τ).loc main_arg1) :=
    (third_kept m outs c main_arg1 (by decide) (by decide)).trans (first_arg m c main_arg1 (by decide))
  have q : (outs 2 main_v6 c : FVec Ideal S3x1x1024 .f32) = queries (fun _ => V1 m c) c := arr0 (fun _ => V1 m c) c _ hr.1
  have hs : score (V3 m outs c (Proc.devRef .tc main_v7)) (V3 m outs c (Proc.devRef .tc main_arg1)) r n = Cert.ReferenceIdeal.Own.scores W r n := by
    unfold score Cert.ReferenceIdeal.Own.scores
    refine Finset.sum_congr rfl fun k _ => ?_
    rw [v7_at, q, queries_at, query_row m c h, e1, h.h1]
  exact (arr1 (fun _ => V3 m outs c) c _ hr.2.1 r n).trans hs

/-- The rows the host stretch gathers, of the memory and the scores. -/
def gathered (x : FVec Ideal S100000x1024 .f32) (y : FVec Ideal S3x100352 .f32) : FVec Ideal S768x1024 .f32 :=
  Host.gather gather_S100000x1024_S768x1_S768x1024_1_0_n_n_0_1_11024 x (broadcastInDim S768x1 ![0] bcast_S768_S768x1_0
    (select (cmpi .slt (shapeCast S768 (Host.topK S3x256 1 (FloatOps.cmpfTotal .gt) (extractStridedSlice S3x100000 ![0, 0] y slices_S3x100352_S3x100000_0_0) sliceFits_S3x100000_S3x256).2 shapeCasts_S3x256_S768) (broadcastInDim S768 ![] bcast_S_S768 (constantI S_ 32 0#32)))
      (addi (shapeCast S768 (Host.topK S3x256 1 (FloatOps.cmpfTotal .gt) (extractStridedSlice S3x100000 ![0, 0] y slices_S3x100352_S3x100000_0_0) sliceFits_S3x100000_S3x256).2 shapeCasts_S3x256_S768) (broadcastInDim S768 ![] bcast_S_S768 (constantI S_ 32 100000#32)))
      (shapeCast S768 (Host.topK S3x256 1 (FloatOps.cmpfTotal .gt) (extractStridedSlice S3x100000 ![0, 0] y slices_S3x100352_S3x100000_0_0) sliceFits_S3x100000_S3x256).2 shapeCasts_S3x256_S768)))

theorem gathered_at (x : FVec Ideal S100000x1024 .f32) (y : FVec Ideal S3x100352 .f32) (t : Fin 768) (k : Fin 1024) :
    gathered x y (ix2 t k) = x (ix2 (Cert.Own.rowOf (Cert.Own.pick (fun n => y (ix2 ⟨t / 256, by omega⟩ ⟨n.val, by omega⟩)) ⟨t % 256, by omega⟩)) k) := by
  unfold gathered
  refine (Cert.Own.gatherK x _ t k).trans ?_
  refine congrArg (fun n => x (ix2 n k)) (Fin.ext ?_)
  refine congrArg (fun w : BitVec 32 => min w.toInt.toNat 99999) ?_
  have i : (Host.topK S3x256 1 (FloatOps.cmpfTotal .gt) (extractStridedSlice S3x100000 ![0, 0] y slices_S3x100352_S3x100000_0_0) sliceFits_S3x100000_S3x256).2
      (ix2 ⟨t / 256, by omega⟩ ⟨t % 256, by omega⟩) = Cert.Own.pick (fun n => y (ix2 ⟨t / 256, by omega⟩ ⟨n.val, by omega⟩)) ⟨t % 256, by omega⟩ := by
    refine (Cert.Own.pickK _ _ _ _).trans ?_
    simp only [front_at]
  rw [← i]
  exact wrap_at _ t

/-- The kernel's retrieved rows are the reference's. -/
theorem retrieved_at (h : Agree m c W) (hr : Reached m c outs) (t : Fin 768) (k : Fin 1024) :
    (V5 m outs c (Proc.devRef .tc main_v17) : FVec Ideal S768x1024 .f32) (ix2 t k) = Cert.ReferenceIdeal.Own.token W t k := by
  have e1 : V4 m outs c main_arg1 = m ((c : Thread nD τ).loc main_arg1) :=
    (fourth_kept m outs c main_arg1 (by decide) (by decide) (by decide)).trans (first_arg m c main_arg1 (by decide))
  have e8 : V4 m outs c (Proc.devRef .tc main_v8) = outs 4 main_v8 c := Function.update_self _ _ _
  have e : (V5 m outs c (Proc.devRef .tc main_v17) : FVec Ideal S768x1024 .f32)
      = gathered (V4 m outs c main_arg1) (V4 m outs c (Proc.devRef .tc main_v8)) := by
    after_results
    all_goals rfl
  rw [e, e1, e8, gathered_at, Cert.ReferenceIdeal.Own.token_row, h.h1]
  simp only [score_row m outs c h hr]

theorem v18_at (d : Fin 1024) : (V5 m outs c (Proc.devRef .tc main_v18) : FVec Ideal S1x1024 .f32) (ix2 0 d) = (m ((c : Thread nD τ).loc main_arg15) : FVec Ideal S1024 .f32) (ix1 d) := by
  have e : (V5 m outs c (Proc.devRef .tc main_v18) : FVec Ideal S1x1024 .f32) = shapeCast S1x1024 (V4 m outs c main_arg15 : FVec Ideal S1024 .f32) shapeCasts_S1024_S1x1024 := by
    after_results
    all_goals rfl
  have e1 : V4 m outs c main_arg15 = m ((c : Thread nD τ).loc main_arg15) :=
    (fourth_kept m outs c main_arg15 (by decide) (by decide) (by decide)).trans (first_arg m c main_arg15 (by decide))
  rw [e, e1]
  exact line_at _ d

theorem v19_at (d : Fin 1024) : (V5 m outs c (Proc.devRef .tc main_v19) : FVec Ideal S1x1024 .f32) (ix2 0 d) = (m ((c : Thread nD τ).loc main_arg17) : FVec Ideal S1024 .f32) (ix1 d) := by
  have e : (V5 m outs c (Proc.devRef .tc main_v19) : FVec Ideal S1x1024 .f32) = shapeCast S1x1024 (V4 m outs c main_arg17 : FVec Ideal S1024 .f32) shapeCasts_S1024_S1x1024 := by
    after_results
    all_goals rfl
  have e1 : V4 m outs c main_arg17 = m ((c : Thread nD τ).loc main_arg17) :=
    (fourth_kept m outs c main_arg17 (by decide) (by decide) (by decide)).trans (first_arg m c main_arg17 (by decide))
  rw [e, e1]
  exact line_at _ d

theorem v20_at (d : Fin 1024) : (V5 m outs c (Proc.devRef .tc main_v20) : FVec Ideal S1x1024 .f32) (ix2 0 d) = (m ((c : Thread nD τ).loc main_arg19) : FVec Ideal S1024 .f32) (ix1 d) := by
  have e : (V5 m outs c (Proc.devRef .tc main_v20) : FVec Ideal S1x1024 .f32) = shapeCast S1x1024 (V4 m outs c main_arg19 : FVec Ideal S1024 .f32) shapeCasts_S1024_S1x1024 := by
    after_results
    all_goals rfl
  have e1 : V4 m outs c main_arg19 = m ((c : Thread nD τ).loc main_arg19) :=
    (fourth_kept m outs c main_arg19 (by decide) (by decide) (by decide)).trans (first_arg m c main_arg19 (by decide))
  rw [e, e1]
  exact line_at _ d

theorem v21_at (d : Fin 1024) : (V5 m outs c (Proc.devRef .tc main_v21) : FVec Ideal S1x1024 .f32) (ix2 0 d) = (m ((c : Thread nD τ).loc main_arg21) : FVec Ideal S1024 .f32) (ix1 d) := by
  have e : (V5 m outs c (Proc.devRef .tc main_v21) : FVec Ideal S1x1024 .f32) = shapeCast S1x1024 (V4 m outs c main_arg21 : FVec Ideal S1024 .f32) shapeCasts_S1024_S1x1024 := by
    after_results
    all_goals rfl
  have e1 : V4 m outs c main_arg21 = m ((c : Thread nD τ).loc main_arg21) :=
    (fourth_kept m outs c main_arg21 (by decide) (by decide) (by decide)).trans (first_arg m c main_arg21 (by decide))
  rw [e, e1]
  exact line_at _ d

theorem v22_at (d : Fin 1024) : (V5 m outs c (Proc.devRef .tc main_v22) : FVec Ideal S1x1024 .f32) (ix2 0 d) = (m ((c : Thread nD τ).loc main_arg22) : FVec Ideal S1024 .f32) (ix1 d) := by
  have e : (V5 m outs c (Proc.devRef .tc main_v22) : FVec Ideal S1x1024 .f32) = shapeCast S1x1024 (V4 m outs c main_arg22 : FVec Ideal S1024 .f32) shapeCasts_S1024_S1x1024 := by
    after_results
    all_goals rfl
  have e1 : V4 m outs c main_arg22 = m ((c : Thread nD τ).loc main_arg22) :=
    (fourth_kept m outs c main_arg22 (by decide) (by decide) (by decide)).trans (first_arg m c main_arg22 (by decide))
  rw [e, e1]
  exact line_at _ d

theorem v23_at (d : Fin 1024) : (V5 m outs c (Proc.devRef .tc main_v23) : FVec Ideal S1x1024 .f32) (ix2 0 d) = (m ((c : Thread nD τ).loc main_arg23) : FVec Ideal S1024 .f32) (ix1 d) := by
  have e : (V5 m outs c (Proc.devRef .tc main_v23) : FVec Ideal S1x1024 .f32) = shapeCast S1x1024 (V4 m outs c main_arg23 : FVec Ideal S1024 .f32) shapeCasts_S1024_S1x1024 := by
    after_results
    all_goals rfl
  have e1 : V4 m outs c main_arg23 = m ((c : Thread nD τ).loc main_arg23) :=
    (fourth_kept m outs c main_arg23 (by decide) (by decide) (by decide)).trans (first_arg m c main_arg23 (by decide))
  rw [e, e1]
  exact line_at _ d

theorem fifth_v0 (s : Fin 2048) (k : Fin 1024) : (V5 m outs c (Proc.devRef .tc main_v0) : FVec Ideal S2048x1024 .f32) (ix2 s k) = (m ((c : Thread nD τ).loc main_arg0) : FVec Ideal S1x2048x1024 .f32) (ix3 0 s k) :=
  (congrFun (fifth_kept m outs c main_v0 (by decide) (by decide) (by decide) (by decide)) (ix2 s k : S2048x1024.Idx)).trans (v0_at m c s k)

theorem fifth_arg (r : Ref sig .tc) (h5 : r ∉ hostOps2_W) (h4 : r ∉ ([main_v8] : List (Ref sig .tc))) (h3 : r ∉ hostOps1_W)
    (h2 : r ∉ ([main_v6] : List (Ref sig .tc))) (h1 : r ∉ hostOps0_W) : V5 m outs c r = m ((c : Thread nD τ).loc r) :=
  (fifth_kept m outs c r h5 h4 h3 h2).trans (first_arg m c r h1)

theorem resid_of (U : Valuation τ sig (Elt Ideal)) (h : Agree m c W)
    (u0 : ∀ s k, (U (Proc.devRef .tc main_v0) : FVec Ideal S2048x1024 .f32) (ix2 s k) = (m ((c : Thread nD τ).loc main_arg0) : FVec Ideal S1x2048x1024 .f32) (ix3 0 s k))
    (u17 : ∀ t k, (U (Proc.devRef .tc main_v17) : FVec Ideal S768x1024 .f32) (ix2 t k) = Cert.ReferenceIdeal.Own.token W t k)
    (u18 : ∀ d, (U (Proc.devRef .tc main_v18) : FVec Ideal S1x1024 .f32) (ix2 0 d) = (m ((c : Thread nD τ).loc main_arg15) : FVec Ideal S1024 .f32) (ix1 d))
    (u19 : ∀ d, (U (Proc.devRef .tc main_v19) : FVec Ideal S1x1024 .f32) (ix2 0 d) = (m ((c : Thread nD τ).loc main_arg17) : FVec Ideal S1024 .f32) (ix1 d))
    (u20 : ∀ d, (U (Proc.devRef .tc main_v20) : FVec Ideal S1x1024 .f32) (ix2 0 d) = (m ((c : Thread nD τ).loc main_arg19) : FVec Ideal S1024 .f32) (ix1 d))
    (u21 : ∀ d, (U (Proc.devRef .tc main_v21) : FVec Ideal S1x1024 .f32) (ix2 0 d) = (m ((c : Thread nD τ).loc main_arg21) : FVec Ideal S1024 .f32) (ix1 d))
    (e14 : (U (Proc.devRef .tc main_arg14) : FVec Ideal S1024x1024 .f32) = (m ((c : Thread nD τ).loc main_arg14) : FVec Ideal S1024x1024 .f32))
    (e16 : (U (Proc.devRef .tc main_arg16) : FVec Ideal S1024x1024 .f32) = (m ((c : Thread nD τ).loc main_arg16) : FVec Ideal S1024x1024 .f32))
    (e18 : (U (Proc.devRef .tc main_arg18) : FVec Ideal S1024x1024 .f32) = (m ((c : Thread nD τ).loc main_arg18) : FVec Ideal S1024x1024 .f32))
    (e20 : (U (Proc.devRef .tc main_arg20) : FVec Ideal S1024x1024 .f32) = (m ((c : Thread nD τ).loc main_arg20) : FVec Ideal S1024x1024 .f32)) :
    residOf (fun _ => U) c = Cert.ReferenceIdeal.Own.residual W := by
  unfold residOf Cert.ReferenceIdeal.Own.residual
  simp only [u0, u17, u18, u19, u20, u21, e14, e16, e18, e20, h.h0, h.h14, h.h15, h.h16, h.h17, h.h18, h.h19, h.h20, h.h21]

theorem resid_row (h : Agree m c W) (hr : Reached m c outs) : residOf (fun _ => V5 m outs c) c = Cert.ReferenceIdeal.Own.residual W :=
  resid_of m c (V5 m outs c) h (fifth_v0 m outs c) (retrieved_at m outs c h hr) (v18_at m outs c) (v19_at m outs c) (v20_at m outs c) (v21_at m outs c)
    (fifth_arg m outs c main_arg14 (by decide) (by decide) (by decide) (by decide) (by decide))
    (fifth_arg m outs c main_arg16 (by decide) (by decide) (by decide) (by decide) (by decide))
    (fifth_arg m outs c main_arg18 (by decide) (by decide) (by decide) (by decide) (by decide))
    (fifth_arg m outs c main_arg20 (by decide) (by decide) (by decide) (by decide) (by decide))

/-- The kernel's result is the reference's. -/
theorem value_eq (h : Agree m c W) (hr : Reached m c outs) :
    V7 m outs c (Proc.devRef .tc main_v25) = Cert.ReferenceIdeal.Own.result W := by
  have e : (V7 m outs c (Proc.devRef .tc main_v25) : FVec Ideal S1x2048x1024 .f32)
      = broadcastInDim S1x2048x1024 ![1, 2] bcast_S2048x1024_S1x2048x1024_1_2 (V6 m outs c (Proc.devRef .tc main_v24) : FVec Ideal S2048x1024 .f32) := by
    after_results
    all_goals rfl
  have e24 : V6 m outs c (Proc.devRef .tc main_v24) = outs 6 main_v24 c := Function.update_self _ _ _
  have p : ∀ (s : Fin 2048) (d : Fin 1024), (V7 m outs c (Proc.devRef .tc main_v25) : FVec Ideal S1x2048x1024 .f32) (ix3 0 s d)
      = Cert.ReferenceIdeal.Own.result W (ix3 0 s d) := fun s d => by
    rw [e, e24]
    refine (whole_at _ s d).trans ?_
    refine (arr2 (fun _ => V5 m outs c) c _ hr.2.2 s d).trans ?_
    rw [resid_row m outs c h hr, v22_at, v23_at, Cert.ReferenceIdeal.Own.result_at, h.h22, h.h23]
  refine funext fun (i : S1x2048x1024.Idx) => ?_
  have hi : i = ix3 0 (i 1) (i 2) := by
    funext a; fin_cases a
    · exact Subsingleton.elim (α := Fin 1) _ _
    · rfl
    · rfl
  rw [hi]
  exact p (i 1) (i 2)

end Cert.KernelIdeal.Own
-- ==== Proof.Algebraic.lean ====
/-
  The idealized kernel and the reference end with equal results.
-/
module

public import proofs.«01_k».proof.Defs
public import proofs.«01_k».proof.Proof.KernelIdeal.Value
public import proofs.«01_k».proof.Proof.KernelIdeal.Frame

@[expose] public section

set_option maxRecDepth 16384

noncomputable section

namespace Cert.Own

open Idealize.ShloMosaic Idealize.ShloMosaic.TcCoe Idealize.SL.Sem

/-- From agreeing arguments both runs end with the reference's result. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => Cert.ReferenceIdeal.Own.result (StableHlo.launchContents m' c), ?_, ?_⟩
  · refine (θ_run Cert.KernelIdeal.defs _ _).mono (fun r h c => ⟨?_, (h.1 c).2⟩) (Cert.KernelIdeal.Own.run_ends (F := Ideal) m g)
    obtain ⟨⟨outs, hr, e⟩, _⟩ := h.1 c
    obtain ⟨h0, h1, h2, h3, h4, h5, h6, h7, h8, h9, h10, h11, h12, h13, h14, h15, h16, h17, h18, h19, h20, h21, h22, h23⟩ := hagree c
    exact e.trans (Cert.KernelIdeal.Own.value_eq m outs c ⟨h0, h1, h2, h3, h4, h5, h6, h7, h8, h9, h14, h16, h18, h20, h15, h17, h19, h21, h22, h23⟩ hr)
  · exact (θ_run Cert.ReferenceIdeal.defs _ _).mono (fun r h c => ⟨(h c).1, (h c).2⟩)
      (Cert.ReferenceIdeal.Value.run (F := Ideal) m' g')

end Cert.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The printed kernel's frame. -/
theorem frame_kernel : Cert.quiescent_Kernel (hKernel := Cert.Kernel.Gen.facts) := fun m g _ =>
  (θ_run Cert.Kernel.defs _ _).mono (fun _ h => ⟨fun c => (h.1 c).2, h.2⟩) (Cert.Kernel.Own.run_ends (F := Bits) m g)

/-- The idealized kernel's frame. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Own.run_ends (F := Ideal) m g)

/-- The reference's frame: host operations only, and no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, frame_kernel, frame_ideal, frame_reference, trivial, Cert.Own.equal_results⟩

end Cert.Proof

end
